-- ==== Defs.lean ====
def Pre_Kernel [hPre_action_in_range : Cert.Pre_action_in_range.Facts] (m : (ℓ : Loc Cert.Kernel.nD Cert.Kernel.τ Cert.Kernel.sig) → Buf (Elt Bits) ℓ) : Prop :=
  ∀ c : Dev Cert.Kernel.nD,
    (Cert.Pre_action_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_action_in_range : Cert.Pre_action_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_action_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_total_not_zero [hPre_total_not_zero : Cert.Pre_total_not_zero.Facts] (m : (ℓ : Loc Cert.KernelIdeal.nD Cert.KernelIdeal.τ Cert.KernelIdeal.sig) → Buf (Elt Ideal) ℓ) : Prop :=
  ∀ c : Dev Cert.KernelIdeal.nD,
    (Cert.Pre_total_not_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_total_not_zero [hPre_total_not_zero : Cert.Pre_total_not_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_total_not_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_action_in_range : Cert.Pre_action_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_action_in_range : Cert.Pre_action_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_total_not_zero [hKernelIdeal : Cert.KernelIdeal.Facts] [hPre_total_not_zero : Cert.Pre_total_not_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_total_not_zero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_total_not_zero [hReferenceIdeal : Cert.ReferenceIdeal.Facts] [hPre_total_not_zero : Cert.Pre_total_not_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_total_not_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_total_not_zero [hKernelIdeal : Cert.KernelIdeal.Facts] [hReferenceIdeal : Cert.ReferenceIdeal.Facts] [hPre_total_not_zero : Cert.Pre_total_not_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_total_not_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_action_in_range : Cert.Pre_action_in_range.Facts) (hPre_total_not_zero : Cert.Pre_total_not_zero.Facts),
    quiescent_Kernel (hKernel := hKernel) (hPre_action_in_range := hPre_action_in_range)
    ∧ quiescent_KernelIdeal (hKernelIdeal := hKernelIdeal) (hPre_action_in_range := hPre_action_in_range)
    ∧ quiescent_KernelIdeal_pre_total_not_zero (hKernelIdeal := hKernelIdeal) (hPre_total_not_zero := hPre_total_not_zero)
    ∧ quiescent_ReferenceIdeal (hReferenceIdeal := hReferenceIdeal)
    ∧ quiescent_ReferenceIdeal_pre_total_not_zero (hReferenceIdeal := hReferenceIdeal) (hPre_total_not_zero := hPre_total_not_zero)
    ∧ preserves_Kernel_KernelIdeal
    ∧ algebraic_KernelIdeal_ReferenceIdeal_pre_total_not_zero (hKernelIdeal := hKernelIdeal) (hReferenceIdeal := hReferenceIdeal) (hPre_total_not_zero := hPre_total_not_zero)
-- ==== Pre_action_in_range.lean ====
abbrev S1000000 : Shape := ⟨1, ![1000000]⟩
abbrev S1000000x16 : Shape := ⟨2, ![1000000, 16]⟩
abbrev S_ : Shape := ⟨0, ![]⟩

class Facts : Prop where

variable [Facts]

def fn {F : FTy → Type} [FloatOps F] (main_arg0 : FVec F S1000000 .f32) (main_arg1 : FVec F S1000000x16 .f32) (main_arg2 : IVec S_ 32) : IVec S_ 1 :=
  let main_c : IVec S_ 32 := constantI S_ 32 0#32
  let main_v0 : IVec S_ 1 := cmpi .sge main_arg2 main_c
  let main_c_0 : IVec S_ 32 := constantI S_ 32 16#32
  let main_v1 : IVec S_ 1 := cmpi .slt main_arg2 main_c_0
  let main_v2 : IVec S_ 1 := andi main_v0 main_v1
  main_v2
-- ==== Pre_total_not_zero.lean ====
abbrev S1000000 : Shape := ⟨1, ![1000000]⟩
abbrev S1000000x16 : Shape := ⟨2, ![1000000, 16]⟩
abbrev S_ : Shape := ⟨0, ![]⟩
abbrev S1 : Shape := ⟨1, ![1]⟩

class Facts : Prop where
  bcast_S_S1 : S_.BroadcastsInDim S1 (![] : Fin 0 → Fin S1.rank)
  reducesTo_S1_S_d0 : S1.ReducesTo [0] S_
  h_S_ : 0 < S_.numel
  bcast_S_S1000000 : S_.BroadcastsInDim S1000000 (![] : Fin 0 → Fin S1000000.rank)
  reducesTo_S1000000_S_d0 : S1000000.ReducesTo [0] S_
  gather_S1000000x16_S1_S1000000_0_1_n_n_1_0_10000001_wf : GatherDims.WF S1000000x16 S1 S1000000 [0] [1] [] [1] [] 0 ![1000000, 1]

variable [Facts]

def gather_S1000000x16_S1_S1000000_0_1_n_n_1_0_10000001 : GatherDims S1000000x16 S1 S1000000 where
  offsetDims := [0]
  collapsedSliceDims := [1]
  operandBatchingDims := []
  startIndicesBatchingDims := []
  startIndexMap := [1]
  indexVectorDim := 0
  sliceSizes := ![1000000, 1]
  wf := gather_S1000000x16_S1_S1000000_0_1_n_n_1_0_10000001_wf
def fn_where {F : FTy → Type} [FloatOps F] (arg0 : IVec S_ 1) (arg1 : IVec S_ 32) (arg2 : IVec S_ 32) : IVec S_ 32 :=
  let v0 : IVec S_ 32 := select arg0 arg1 arg2
  v0

def fn_take {F : FTy → Type} [FloatOps F] (arg0 : FVec F S1000000x16 .f32) (arg1 : IVec S_ 32) : FVec F S1000000 .f32 :=
  let c : IVec S_ 32 := constantI S_ 32 0#32
  let v0 : IVec S_ 1 := cmpi .slt arg1 c
  let c_0 : IVec S_ 32 := constantI S_ 32 16#32
  let v1 : IVec S_ 32 := addi arg1 c_0
  let v2 : IVec S_ 32 := fn_where (F := F) v0 v1 arg1
  let v3 : IVec S1 32 := broadcastInDim S1 ![] bcast_S_S1 v2
  let c_1 : IVec S1 32 := constantI S1 32 15#32
  let c_2 : IVec S_ 32 := constantI S_ 32 0#32
  let v4 : IVec S1 32 := broadcastInDim S1 ![] bcast_S_S1 c_2
  let v5 : IVec S1 1 := cmpi .sge v3 v4
  let v6 : IVec S1 1 := cmpi .sle v3 c_1
  let v7 : IVec S1 1 := andi v5 v6
  let c_3 : IVec S_ 1 := constantI S_ 1 1#1
  let v8 : IVec S_ 1 := (fun x v => Host.reduce IntOp.andi x v reducesTo_S1_S_d0 h_S_) v7 c_3
  let v9 : FVec F S1000000 .f32 := (fun x i => Host.gather gather_S1000000x16_S1_S1000000_0_1_n_n_1_0_10000001 x i) arg0 v3
  let v10 : IVec S1000000 1 := broadcastInDim S1000000 ![] bcast_S_S1000000 v8
  let cst : FVec F S_ .f32 := constant S_ .f32 0x7FC00000#32
  let v11 : FVec F S1000000 .f32 := broadcastInDim S1000000 ![] bcast_S_S1000000 cst
  let v12 : FVec F S1000000 .f32 := select v10 v9 v11
  v12

def fn {F : FTy → Type} [FloatOps F] (main_arg0 : FVec F S1000000 .f32) (main_arg1 : FVec F S1000000x16 .f32) (main_arg2 : IVec S_ 32) : IVec S_ 1 :=
  let main_v0 : FVec F S1000000 .f32 := fn_take (F := F) main_arg1 main_arg2
  let main_v1 : FVec F S1000000 .f32 := mulf main_v0 main_arg0
  let main_cst : FVec F S_ .f32 := constant S_ .f32 0x00000000#32
  let main_v2 : FVec F S_ .f32 := (fun x v => Host.reduceAdd x v reducesTo_S1000000_S_d0 h_S_) main_v1 main_cst
  let main_c : IVec S_ 32 := constantI S_ 32 0#32
  let main_v3 : IVec S_ 1 := cmpi .sge main_arg2 main_c
  let main_c_0 : IVec S_ 32 := constantI S_ 32 16#32
  let main_v4 : IVec S_ 1 := cmpi .slt main_arg2 main_c_0
  let main_v5 : IVec S_ 1 := andi main_v3 main_v4
  let main_cst_1 : FVec F S_ .f32 := constant S_ .f32 0x00000000#32
  let main_v6 : IVec S_ 1 := cmpf .une main_v2 main_cst_1
  let main_v7 : IVec S_ 1 := andi main_v5 main_v6
  main_v7
-- ==== Kernel.lean ====
abbrev S1000000 : Shape := ⟨1, ![1000000]⟩
abbrev S1000000x16 : Shape := ⟨2, ![1000000, 16]⟩
abbrev S_ : Shape := ⟨0, ![]⟩
abbrev S16x1000000 : Shape := ⟨2, ![16, 1000000]⟩
abbrev S1 : Shape := ⟨1, ![1]⟩
abbrev S131072 : Shape := ⟨1, ![131072]⟩
abbrev S917504 : Shape := ⟨1, ![917504]⟩
abbrev S82496 : Shape := ⟨1, ![82496]⟩
abbrev S7 : Shape := ⟨1, ![7]⟩
abbrev S2 : Shape := ⟨1, ![2]⟩
abbrev S1x131072 : Shape := ⟨2, ![1, 131072]⟩
abbrev S1x82496 : Shape := ⟨2, ![1, 82496]⟩
abbrev S1x1 : Shape := ⟨2, ![1, 1]⟩

abbrev nBuf : Space → Nat
  | .hbm => 5
  | .vmem => 7
  | .smem => 2
  | _ => 0

abbrev bufTy : (tb : Table) → Fin (tcTables nBuf tb) → BufTy
  | .hbm, ⟨0, _⟩ => ⟨S1000000, .f32⟩
  | .hbm, ⟨1, _⟩ => ⟨S1000000x16, .f32⟩
  | .hbm, ⟨2, _⟩ => ⟨S_, .i32⟩
  | .hbm, ⟨3, _⟩ => ⟨S16x1000000, .f32⟩
  | .hbm, ⟨4, _⟩ => ⟨S1000000, .f32⟩
  | .local _ .vmem, ⟨0, _⟩ => ⟨S131072, .f32⟩
  | .local _ .vmem, ⟨1, _⟩ => ⟨S131072, .f32⟩
  | .local _ .vmem, ⟨2, _⟩ => ⟨S917504, .f32⟩
  | .local _ .vmem, ⟨3, _⟩ => ⟨S82496, .f32⟩
  | .local _ .vmem, ⟨4, _⟩ => ⟨S917504, .f32⟩
  | .local _ .vmem, ⟨5, _⟩ => ⟨S82496, .f32⟩
  | .local _ .vmem, ⟨6, _⟩ => ⟨S1000000, .f32⟩
  | .local _ .smem, ⟨0, _⟩ => ⟨S1, .i32⟩
  | .local _ .smem, ⟨1, _⟩ => ⟨S1, .f32⟩
  | _, _ => ⟨S1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v2 : Ref sig .tc := ⟨.hbm, 4, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.smem, 1, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨2, ![2, 8], ![false, false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_cond2 (i : grid0.Coords) : BitVec 1 :=
  let arg1 : BitVec 32 := BitVec.ofNat 32 (i 1).val
  let c0_i32_2 : BitVec 32 := 0#32
  let v7 : BitVec 1 := Scalar.cmpi .eq arg1 c0_i32_2
  let v8 : BitVec 32 := Scalar.extui v7
  let c0_i32_3 : BitVec 32 := 0#32
  let v9 : BitVec 1 := Scalar.cmpi .ne v8 c0_i32_3
  v9

def k0_off1 (v0 : BitVec 32) : Fin 2 → Nat :=
  let c0_i32_10 : BitVec 32 := 0#32
  ![v0.toNat, 0]

def k0_off2 (v0 : BitVec 32) : Fin 2 → Nat :=
  let c131072_i32_15 : BitVec 32 := 131072#32
  ![v0.toNat, 131072]
def k0_off3 (v0 : BitVec 32) : Fin 2 → Nat :=
  let c262144_i32_19 : BitVec 32 := 262144#32
  ![v0.toNat, 262144]
def k0_off4 (v0 : BitVec 32) : Fin 2 → Nat :=
  let c393216_i32_23 : BitVec 32 := 393216#32
  ![v0.toNat, 393216]
def k0_off5 (v0 : BitVec 32) : Fin 2 → Nat :=
  let c524288_i32_27 : BitVec 32 := 524288#32
  ![v0.toNat, 524288]
def k0_off6 (v0 : BitVec 32) : Fin 2 → Nat :=
  let c655360_i32_31 : BitVec 32 := 655360#32
  ![v0.toNat, 655360]
def k0_off7 (v0 : BitVec 32) : Fin 2 → Nat :=
  let c786432_i32_35 : BitVec 32 := 786432#32
  ![v0.toNat, 786432]
def k0_off8 (v0 : BitVec 32) : Fin 2 → Nat :=
  let c917504_i32 : BitVec 32 := 917504#32
  ![v0.toNat, 917504]
def k0_cond3 (i : grid0.Coords) : BitVec 1 :=
  let arg1 : BitVec 32 := BitVec.ofNat 32 (i 1).val
  let c7_i32 : BitVec 32 := 7#32
  let v10 : BitVec 1 := Scalar.cmpi .slt arg1 c7_i32
  let v11 : BitVec 32 := Scalar.extui v10
  let c0_i32_4 : BitVec 32 := 0#32
  let v12 : BitVec 1 := Scalar.cmpi .ne v11 c0_i32_4
  v12

def k0_off9 (i : grid0.Coords) : Fin 1 → Nat :=
  let arg1 : BitVec 32 := BitVec.ofNat 32 (i 1).val
  ![arg1.toNat]
def k0_off10 (v0 : BitVec 32) : Fin 2 → Nat :=
  let c0_i32_8 : BitVec 32 := 0#32
  ![v0.toNat, 0]
def k0_off11 (i : grid0.Coords) : Fin 1 → Nat :=
  let arg1 : BitVec 32 := BitVec.ofNat 32 (i 1).val
  let c131072_i32 : BitVec 32 := 131072#32
  let v25 : BitVec 32 := Scalar.muli arg1 c131072_i32
  let v26 : Index := Scalar.indexCast v25
  ![v26.toNat]
def k0_off12 (i : grid0.Coords) : Fin 1 → Nat :=
  let arg1 : BitVec 32 := BitVec.ofNat 32 (i 1).val
  let c131072_i32_12 : BitVec 32 := 131072#32
  let v32 : BitVec 32 := Scalar.muli arg1 c131072_i32_12
  let v33 : Index := Scalar.indexCast v32
  ![v33.toNat]
def k0_cond4 (i : grid0.Coords) : BitVec 1 :=
  let arg1 : BitVec 32 := BitVec.ofNat 32 (i 1).val
  let c7_i32_5 : BitVec 32 := 7#32
  let v13 : BitVec 1 := Scalar.cmpi .eq arg1 c7_i32_5
  let v14 : BitVec 32 := Scalar.extui v13
  let c0_i32_6 : BitVec 32 := 0#32
  let v15 : BitVec 1 := Scalar.cmpi .ne v14 c0_i32_6
  v15

def k0_off13 (v0 : BitVec 32) : Fin 2 → Nat :=
  let c917504_i32 : BitVec 32 := 917504#32
  ![v0.toNat, 917504]

def k0_chk1 (i : grid0.Coords) (v0 : BitVec 32) : Prop :=
  (∀ (k0_h1 : k0_cond1 i = 1#1), ∀ (k0_h2 : k0_cond2 i = 1#1), ∀ a, (k0_off1 v0) a + S1x131072.size a ≤ S16x1000000.size a) ∧
  (∀ (k0_h1 : k0_cond1 i = 1#1), ∀ (k0_h2 : k0_cond2 i = 1#1), ∀ a, (k0_off2 v0) a + S1x131072.size a ≤ S16x1000000.size a) ∧
  (∀ (k0_h1 : k0_cond1 i = 1#1), ∀ (k0_h2 : k0_cond2 i = 1#1), ∀ a, (k0_off3 v0) a + S1x131072.size a ≤ S16x1000000.size a) ∧
  (∀ (k0_h1 : k0_cond1 i = 1#1), ∀ (k0_h2 : k0_cond2 i = 1#1), ∀ a, (k0_off4 v0) a + S1x131072.size a ≤ S16x1000000.size a) ∧
  (∀ (k0_h1 : k0_cond1 i = 1#1), ∀ (k0_h2 : k0_cond2 i = 1#1), ∀ a, (k0_off5 v0) a + S1x131072.size a ≤ S16x1000000.size a) ∧
  (∀ (k0_h1 : k0_cond1 i = 1#1), ∀ (k0_h2 : k0_cond2 i = 1#1), ∀ a, (k0_off6 v0) a + S1x131072.size a ≤ S16x1000000.size a) ∧
  (∀ (k0_h1 : k0_cond1 i = 1#1), ∀ (k0_h2 : k0_cond2 i = 1#1), ∀ a, (k0_off7 v0) a + S1x131072.size a ≤ S16x1000000.size a) ∧
  (∀ (k0_h1 : k0_cond1 i = 1#1), ∀ (k0_h2 : k0_cond2 i = 1#1), ∀ a, (k0_off8 v0) a + S1x82496.size a ≤ S16x1000000.size a) ∧
  (∀ (k0_h1 : k0_cond1 i = 1#1), ∀ (k0_h3 : k0_cond3 i = 1#1), ∀ a, (k0_off10 v0) a + S1x131072.size a ≤ S16x1000000.size a) ∧
  (∀ (k0_h1 : k0_cond1 i = 1#1), ∀ (k0_h4 : k0_cond4 i = 1#1), ∀ a, (k0_off13 v0) a + S1x82496.size a ≤ S16x1000000.size a)
theorem k0_off1_inb : ∀ (i : grid0.Coords) (v0 : BitVec 32) (k0_hw1 : k0_chk1 i v0), ∀ (k0_h1 : k0_cond1 i = 1#1), ∀ (k0_h2 : k0_cond2 i = 1#1), ∀ a, (k0_off1 v0) a + S1x131072.size a ≤ S16x1000000.size a := fun i v0 k0_hw1 k0_h1 k0_h2 => k0_hw1.1 k0_h1 k0_h2
theorem k0_off2_inb : ∀ (i : grid0.Coords) (v0 : BitVec 32) (k0_hw1 : k0_chk1 i v0), ∀ (k0_h1 : k0_cond1 i = 1#1), ∀ (k0_h2 : k0_cond2 i = 1#1), ∀ a, (k0_off2 v0) a + S1x131072.size a ≤ S16x1000000.size a := fun i v0 k0_hw1 k0_h1 k0_h2 => k0_hw1.2.1 k0_h1 k0_h2
theorem k0_off3_inb : ∀ (i : grid0.Coords) (v0 : BitVec 32) (k0_hw1 : k0_chk1 i v0), ∀ (k0_h1 : k0_cond1 i = 1#1), ∀ (k0_h2 : k0_cond2 i = 1#1), ∀ a, (k0_off3 v0) a + S1x131072.size a ≤ S16x1000000.size a := fun i v0 k0_hw1 k0_h1 k0_h2 => k0_hw1.2.2.1 k0_h1 k0_h2
theorem k0_off4_inb : ∀ (i : grid0.Coords) (v0 : BitVec 32) (k0_hw1 : k0_chk1 i v0), ∀ (k0_h1 : k0_cond1 i = 1#1), ∀ (k0_h2 : k0_cond2 i = 1#1), ∀ a, (k0_off4 v0) a + S1x131072.size a ≤ S16x1000000.size a := fun i v0 k0_hw1 k0_h1 k0_h2 => k0_hw1.2.2.2.1 k0_h1 k0_h2
theorem k0_off5_inb : ∀ (i : grid0.Coords) (v0 : BitVec 32) (k0_hw1 : k0_chk1 i v0), ∀ (k0_h1 : k0_cond1 i = 1#1), ∀ (k0_h2 : k0_cond2 i = 1#1), ∀ a, (k0_off5 v0) a + S1x131072.size a ≤ S16x1000000.size a := fun i v0 k0_hw1 k0_h1 k0_h2 => k0_hw1.2.2.2.2.1 k0_h1 k0_h2
theorem k0_off6_inb : ∀ (i : grid0.Coords) (v0 : BitVec 32) (k0_hw1 : k0_chk1 i v0), ∀ (k0_h1 : k0_cond1 i = 1#1), ∀ (k0_h2 : k0_cond2 i = 1#1), ∀ a, (k0_off6 v0) a + S1x131072.size a ≤ S16x1000000.size a := fun i v0 k0_hw1 k0_h1 k0_h2 => k0_hw1.2.2.2.2.2.1 k0_h1 k0_h2
theorem k0_off7_inb : ∀ (i : grid0.Coords) (v0 : BitVec 32) (k0_hw1 : k0_chk1 i v0), ∀ (k0_h1 : k0_cond1 i = 1#1), ∀ (k0_h2 : k0_cond2 i = 1#1), ∀ a, (k0_off7 v0) a + S1x131072.size a ≤ S16x1000000.size a := fun i v0 k0_hw1 k0_h1 k0_h2 => k0_hw1.2.2.2.2.2.2.1 k0_h1 k0_h2
theorem k0_off8_inb : ∀ (i : grid0.Coords) (v0 : BitVec 32) (k0_hw1 : k0_chk1 i v0), ∀ (k0_h1 : k0_cond1 i = 1#1), ∀ (k0_h2 : k0_cond2 i = 1#1), ∀ a, (k0_off8 v0) a + S1x82496.size a ≤ S16x1000000.size a := fun i v0 k0_hw1 k0_h1 k0_h2 => k0_hw1.2.2.2.2.2.2.2.1 k0_h1 k0_h2
theorem k0_off10_inb : ∀ (i : grid0.Coords) (v0 : BitVec 32) (k0_hw1 : k0_chk1 i v0), ∀ (k0_h1 : k0_cond1 i = 1#1), ∀ (k0_h3 : k0_cond3 i = 1#1), ∀ a, (k0_off10 v0) a + S1x131072.size a ≤ S16x1000000.size a := fun i v0 k0_hw1 k0_h1 k0_h3 => k0_hw1.2.2.2.2.2.2.2.2.1 k0_h1 k0_h3
theorem k0_off13_inb : ∀ (i : grid0.Coords) (v0 : BitVec 32) (k0_hw1 : k0_chk1 i v0), ∀ (k0_h1 : k0_cond1 i = 1#1), ∀ (k0_h4 : k0_cond4 i = 1#1), ∀ a, (k0_off13 v0) a + S1x82496.size a ≤ S16x1000000.size a := fun i v0 k0_hw1 k0_h1 k0_h4 => k0_hw1.2.2.2.2.2.2.2.2.2 k0_h1 k0_h4

def k0_cond5 (i : grid0.Coords) : BitVec 1 :=
  let arg0 : BitVec 32 := BitVec.ofNat 32 (i 0).val
  let c1_i32 : BitVec 32 := 1#32
  let v4 : BitVec 1 := Scalar.cmpi .eq arg0 c1_i32
  let v5 : BitVec 32 := Scalar.extui v4
  let c0_i32_1 : BitVec 32 := 0#32
  let v6 : BitVec 1 := Scalar.cmpi .ne v5 c0_i32_1
  v6

def k0_cond6 (i : grid0.Coords) : BitVec 1 :=
  let arg1 : BitVec 32 := BitVec.ofNat 32 (i 1).val
  let c7_i32 : BitVec 32 := 7#32
  let v9 : BitVec 1 := Scalar.cmpi .slt arg1 c7_i32
  let v10 : BitVec 32 := Scalar.extui v9
  let c0_i32_3 : BitVec 32 := 0#32
  let v11 : BitVec 1 := Scalar.cmpi .ne v10 c0_i32_3
  v11

def k0_off14 (i : grid0.Coords) : Fin 1 → Nat :=
  let arg1 : BitVec 32 := BitVec.ofNat 32 (i 1).val
  let c131072_i32 : BitVec 32 := 131072#32
  let v15 : BitVec 32 := Scalar.muli arg1 c131072_i32
  let v16 : Index := Scalar.indexCast v15
  ![v16.toNat]
def k0_cond7 (i : grid0.Coords) : BitVec 1 :=
  let arg1 : BitVec 32 := BitVec.ofNat 32 (i 1).val
  let c7_i32_4 : BitVec 32 := 7#32
  let v12 : BitVec 1 := Scalar.cmpi .eq arg1 c7_i32_4
  let v13 : BitVec 32 := Scalar.extui v12
  let c0_i32_5 : BitVec 32 := 0#32
  let v14 : BitVec 1 := Scalar.cmpi .ne v13 c0_i32_5
  v14

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  ![v1.toNat]

abbrev stage0_0 : Fin 2 → Memref sig .tc .vmem S131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]
-- ==== ReferenceIdeal.lean ====
abbrev S1000000 : Shape := ⟨1, ![1000000]⟩
abbrev S1000000x16 : Shape := ⟨2, ![1000000, 16]⟩
abbrev S_ : Shape := ⟨0, ![]⟩
abbrev S1 : Shape := ⟨1, ![1]⟩

abbrev nBuf : Space → Nat
  | .hbm => 27
  | .vmem => 0
  | .smem => 0
  | _ => 0

abbrev bufTy : (tb : Table) → Fin (tcTables nBuf tb) → BufTy
  | .hbm, ⟨0, _⟩ => ⟨S1000000, .f32⟩
  | .hbm, ⟨1, _⟩ => ⟨S1000000x16, .f32⟩
  | .hbm, ⟨2, _⟩ => ⟨S_, .i32⟩
  | .hbm, ⟨3, _⟩ => ⟨S_, .i32⟩
  | .hbm, ⟨4, _⟩ => ⟨S_, .i1⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S1, .i1⟩
  | .hbm, ⟨13, _⟩ => ⟨S1, .i1⟩
  | .hbm, ⟨14, _⟩ => ⟨S1, .i1⟩
  | .hbm, ⟨15, _⟩ => ⟨S_, .i1⟩
  | .hbm, ⟨16, _⟩ => ⟨S_, .i1⟩
  | .hbm, ⟨17, _⟩ => ⟨S1000000, .f32⟩
  | .hbm, ⟨18, _⟩ => ⟨S1000000, .i1⟩
  | .hbm, ⟨19, _⟩ => ⟨S_, .f32⟩
  | .hbm, ⟨20, _⟩ => ⟨S1000000, .f32⟩
  | .hbm, ⟨21, _⟩ => ⟨S1000000, .f32⟩
  | .hbm, ⟨22, _⟩ => ⟨S1000000, .f32⟩
  | .hbm, ⟨23, _⟩ => ⟨S_, .f32⟩
  | .hbm, ⟨24, _⟩ => ⟨S_, .f32⟩
  | .hbm, ⟨25, _⟩ => ⟨S1000000, .f32⟩
  | .hbm, ⟨26, _⟩ => ⟨S1000000, .f32⟩
  | _, _ => ⟨S1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_c_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_c_1 : Ref sig .tc := ⟨.hbm, 9, rfl⟩
abbrev main_call0_c_2 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_c_3 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_cst : Ref sig .tc := ⟨.hbm, 19, rfl⟩
abbrev main_call0_v11 : Ref sig .tc := ⟨.hbm, 20, rfl⟩
abbrev main_v0 : Ref sig .tc := ⟨.hbm, 21, rfl⟩
abbrev main_v1 : Ref sig .tc := ⟨.hbm, 22, rfl⟩
abbrev main_cst : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩

abbrev nD : Nat := 1
abbrev τ : Topo := Topo.v7x

variable {F : FTy → Type} [FloatOps F]
-- ==== Proof.Kernel.Word.lean ====
/-
  Hand-written, untrusted. The word the kernel reads from its table is the action.
-/
module

public import proofs.«01_k».proof.Proof.Kernel.Run

@[expose] public section

noncomputable section

namespace Cert.Kernel.Hand

open Cert.Kernel Cert.Kernel.Gen
open Idealize.ShloMosaic Idealize.ShloMosaic.TcCoe Idealize.SL.Sem Idealize.ShloMosaic.StableHlo

variable {F : FTy → Type} [FloatOps F] (m : (ℓ : Loc nD τ sig) → Buf (Elt F) ℓ)

/-- The table's word is the action. -/
theorem word_eq : word m = (m (((0 : Dev nD).tc : Thread nD τ).loc main_arg2) : IVec S_ 32) ValueIdx.ix0 := by
  unfold word
  show shapeCast S1 (m (((0 : Dev nD).tc : Thread nD τ).loc main_arg2) : IVec S_ 32) _ (ValueIdx.ix1 ⟨0, Nat.one_pos⟩) = _
  refine shapeCast_apply _ _ _ ValueIdx.ix0 ?_
  exact congrArg Fin.val (Subsingleton.elim (α := Fin 1) (S_.rowMajor ValueIdx.ix0) 0)

end Cert.Kernel.Hand

end
-- ==== Proof.KernelIdeal.Windows.lean ====
/-
  Hand-written, untrusted. The kernel body's operands, the pieces its transfers move — the chosen row of the strategy
  table and the belief in seven chunks of 131072 and a tail of 82496 —, and the cells they complete on.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-! ## The operands -/

abbrev tabM : Memref sig .tc .smem S1 .i32 := Memref.whole main_v1
abbrev rowM : Memref sig .tc .hbm S16x1000000 .f32 := Memref.whole main_v0
abbrev belM : Memref sig .tc .hbm S1000000 .f32 := Memref.whole main_arg0
abbrev colM : Memref sig .tc .vmem S917504 .f32 := Memref.whole cc0_scratch0
abbrev colT : Memref sig .tc .vmem S82496 .f32 := Memref.whole cc0_scratch1
abbrev bufM : Memref sig .tc .vmem S917504 .f32 := Memref.whole cc0_scratch2
abbrev bufT : Memref sig .tc .vmem S82496 .f32 := Memref.whole cc0_scratch3
abbrev prodM : Memref sig .tc .vmem S1000000 .f32 := Memref.whole cc0_scratch4
abbrev accM : Memref sig .tc .smem S1 .f32 := Memref.whole cc0_scratch5

/-! ## The pieces -/

theorem inbRow (a : Nat) (h : a < 16) (j : Fin 7) :
    ∀ x, (![a, j.val * 131072] : Fin 2 → Nat) x + S1x131072.size x ≤ S16x1000000.size x := by
  intro x; have := j.isLt; match x with
  | 0 => show a + 1 ≤ 16; omega
  | 1 => show j.val * 131072 + 131072 ≤ 1000000; omega
theorem inbRowT (a : Nat) (h : a < 16) :
    ∀ x, (![a, 917504] : Fin 2 → Nat) x + S1x82496.size x ≤ S16x1000000.size x := by
  intro x; match x with
  | 0 => show a + 1 ≤ 16; omega
  | 1 => show 917504 + 82496 ≤ 1000000; omega
theorem inbVec (j : Fin 7) : ∀ x, (![j.val * 131072] : Fin 1 → Nat) x + S131072.size x ≤ S1000000.size x := by
  intro x; have := j.isLt; match x with
  | 0 => show j.val * 131072 + 131072 ≤ 1000000; omega
theorem inbBuf (j : Fin 7) : ∀ x, (![j.val * 131072] : Fin 1 → Nat) x + S131072.size x ≤ S917504.size x := by
  intro x; have := j.isLt; match x with
  | 0 => show j.val * 131072 + 131072 ≤ 917504; omega
theorem inbSem (j : Fin 7) : ∀ x, (![j.val] : Fin 1 → Nat) x + S1.size x ≤ S7.size x := by
  intro x; have := j.isLt; match x with
  | 0 => show j.val + 1 ≤ 7; omega

/-- A chunk of the strategy table's rows, at offsets `o`. -/
abbrev rowO (o : Fin 2 → Nat) (h : ∀ x, o x + S1x131072.size x ≤ S16x1000000.size x) : Memref sig .tc .hbm S131072 .f32 :=
  (rowM.slice (Rect.unit (s := S16x1000000) o S1x131072.size h) (fun _ => rfl)).squeeze S131072 squeezes_S1x131072_S131072
/-- A tail of the strategy table's rows, at offsets `o`. -/
abbrev rowTO (o : Fin 2 → Nat) (h : ∀ x, o x + S1x82496.size x ≤ S16x1000000.size x) : Memref sig .tc .hbm S82496 .f32 :=
  (rowM.slice (Rect.unit (s := S16x1000000) o S1x82496.size h) (fun _ => rfl)).squeeze S82496 squeezes_S1x82496_S82496
/-- A chunk of the belief, at offset `o`. -/
abbrev belO (o : Fin 1 → Nat) (h : ∀ x, o x + S131072.size x ≤ S1000000.size x) : Memref sig .tc .hbm S131072 .f32 :=
  belM.slice (Rect.unit (s := S1000000) o S131072.size h) (fun _ => rfl)
/-- The tail of the belief. -/
abbrev belT : Memref sig .tc .hbm S82496 .f32 :=
  belM.slice (Rect.unit (s := S1000000) ![917504] S82496.size inb_S1000000_S82496_917504) (fun _ => rfl)
/-- A chunk of the buffer the row lands in, at offset `o`. -/
abbrev colO (o : Fin 1 → Nat) (h : ∀ x, o x + S131072.size x ≤ S917504.size x) : Memref sig .tc .vmem S131072 .f32 :=
  colM.slice (Rect.unit (s := S917504) o S131072.size h) (fun _ => rfl)
/-- A chunk of the buffer the belief lands in, at offset `o`. -/
abbrev bufO (o : Fin 1 → Nat) (h : ∀ x, o x + S131072.size x ≤ S917504.size x) : Memref sig .tc .vmem S131072 .f32 :=
  bufM.slice (Rect.unit (s := S917504) o S131072.size h) (fun _ => rfl)
/-- The row cells' member at `o`, on which a chunk of the row completes. -/
abbrev semCO (o : Fin 1 → Nat) (h : ∀ x, o x + S1.size x ≤ S7.size x) : DmaSem sig :=
  ((cc0_scratch6.slice (Rect.unit (s := S7) o S1.size h)).squeeze S_ squeezes_S1_S_).sem
/-- The belief cells' member at `o`, on which a chunk of the belief completes. -/
abbrev semBO (o : Fin 1 → Nat) (h : ∀ x, o x + S1.size x ≤ S7.size x) : DmaSem sig :=
  ((cc0_scratch7.slice (Rect.unit (s := S7) o S1.size h)).squeeze S_ squeezes_S1_S_).sem
/-- Chunk `j` of row `a`, of the belief, of the two buffers they land in, and the cells they complete on. -/
abbrev rowJ (a : Nat) (h : a < 16) (j : Fin 7) := rowO ![a, j.val * 131072] (inbRow a h j)
abbrev rowT (a : Nat) (h : a < 16) := rowTO ![a, 917504] (inbRowT a h)
abbrev belJ (j : Fin 7) := belO ![j.val * 131072] (inbVec j)
abbrev colJ (j : Fin 7) := colO ![j.val * 131072] (inbBuf j)
abbrev bufJ (j : Fin 7) := bufO ![j.val * 131072] (inbBuf j)
abbrev semC (j : Fin 7) := semCO ![j.val] (inbSem j)
abbrev semB (j : Fin 7) := semBO ![j.val] (inbSem j)
/-- The cells the two tails complete on. -/
abbrev semT0 : DmaSem sig := ((cc0_scratch8.slice (Rect.unit (s := S2) ![0] S1.size inb_S2_S1_0)).squeeze S_ squeezes_S1_S_).sem
abbrev semT1 : DmaSem sig := ((cc0_scratch8.slice (Rect.unit (s := S2) ![1] S1.size inb_S2_S1_1)).squeeze S_ squeezes_S1_S_).sem

/-! ## Holding a piece, and a transfer in flight -/

abbrev BufOf (c : Dev nD) {sp : Space} {S : Shape} {e : EltTy} (M : Memref sig .tc sp S e) : Type := Buf (Elt F) (M.view.loc (c : Thread nD τ))
/-- A memref's own elements, held in full. -/
abbrev heldOwn (c : Dev nD) {sp : Space} {S : Shape} {e : EltTy} (M : Memref sig .tc sp S e) (f : BufOf (F := F) c M) : sProp 𝕄 :=
  M.view.loc (c : Thread nD τ) ↦[M.view.set]{fullShare} f
/-- A buffer held whole. -/
abbrev heldAll (c : Dev nD) {sp : Space} {S : Shape} {e : EltTy} (M : Memref sig .tc sp S e) (f : BufOf (F := F) c M) : sProp 𝕄 :=
  M.view.loc (c : Thread nD τ) ↦{fullShare} f
/-- The prefetched table, held at half the full share. -/
abbrev heldTab (c : Dev nD) (f : BufOf (F := F) c tabM) : sProp 𝕄 :=
  tabM.view.loc (c : Thread nD τ) ↦{fullShare.right} f
/-- A copy of `src` (at `fs`) into `dst` (before it at `fd`), in flight on the cell `sm`. -/
abbrev inflight (c : Dev nD) {sp sp' : Space} {S : Shape} {e : EltTy} (src : Memref sig .tc sp S e) (dst : Memref sig .tc sp' S e) (sm : DmaSem sig)
    (fs : BufOf (F := F) c src) (fd : BufOf (F := F) c dst) : sProp 𝕄 :=
  Transfers.Flight (countersEmb (U := Pipeline.UD sig nD τ)) (c : Thread nD τ) (.dma sm) () (dst.view.amount (SemLoc.dma (sig := sig) sm))
    iprop(heldOwn c dst (dst.view.writes (Elt F) fd [⟨Rect.whole S, ReadAs.same.apply (src.view.read (Elt F) fs)⟩]) ∗ heldOwn c src fs)

/-- A chunk at rest: its two cells at zero, its two places in the buffers at some contents, its part of the row and
    of the belief at home. -/
abbrev freeO (c : Dev nD) (R : BufOf (F := F) c rowM) (B : BufOf (F := F) c belM) (oR : Fin 2 → Nat) (o oS : Fin 1 → Nat) (iR : ∀ x, oR x + S1x131072.size x ≤ S16x1000000.size x)
    (iV : ∀ x, o x + S131072.size x ≤ S1000000.size x) (iB : ∀ x, o x + S131072.size x ≤ S917504.size x) (iS : ∀ x, oS x + S1.size x ≤ S7.size x) : sProp 𝕄 :=
  iprop((semVal ((c : Thread nD τ), SemLoc.dma (semCO oS iS)) 0 ∗ (∃ f, heldOwn c (colO o iB) f) ∗ heldOwn c (rowO oR iR) R)
    ∗ (semVal ((c : Thread nD τ), SemLoc.dma (semBO oS iS)) 0 ∗ (∃ f, heldOwn c (bufO o iB) f) ∗ heldOwn c (belO o iV) B))
/-- A chunk on its way: both copies in flight. -/
abbrev inflO (c : Dev nD) (R : BufOf (F := F) c rowM) (B : BufOf (F := F) c belM) (oR : Fin 2 → Nat) (o oS : Fin 1 → Nat) (iR : ∀ x, oR x + S1x131072.size x ≤ S16x1000000.size x)
    (iV : ∀ x, o x + S131072.size x ≤ S1000000.size x) (iB : ∀ x, o x + S131072.size x ≤ S917504.size x) (iS : ∀ x, oS x + S1.size x ≤ S7.size x) : sProp 𝕄 :=
  iprop((∃ f, inflight c (rowO oR iR) (colO o iB) (semCO oS iS) R f) ∗ (∃ f, inflight c (belO o iV) (bufO o iB) (semBO oS iS) B f))
/-- The tail at rest. -/
abbrev freeTO (c : Dev nD) (R : BufOf (F := F) c rowM) (B : BufOf (F := F) c belM) (oR : Fin 2 → Nat) (iR : ∀ x, oR x + S1x82496.size x ≤ S16x1000000.size x) : sProp 𝕄 :=
  iprop((semVal ((c : Thread nD τ), SemLoc.dma semT0) 0 ∗ (∃ f, heldOwn c colT f) ∗ heldOwn c (rowTO oR iR) R)
    ∗ (semVal ((c : Thread nD τ), SemLoc.dma semT1) 0 ∗ (∃ f, heldOwn c bufT f) ∗ heldOwn c belT B))
/-- The tail on its way. -/
abbrev inflTO (c : Dev nD) (R : BufOf (F := F) c rowM) (B : BufOf (F := F) c belM) (oR : Fin 2 → Nat) (iR : ∀ x, oR x + S1x82496.size x ≤ S16x1000000.size x) : sProp 𝕄 :=
  iprop((∃ f, inflight c (rowTO oR iR) colT semT0 R f) ∗ (∃ f, inflight c belT bufT semT1 B f))

/-- A chunk's offsets may be spelled in any way: at rest. -/
theorem freeO_move (c : Dev nD) (R : BufOf (F := F) c rowM) (B : BufOf (F := F) c belM) {oR oR' : Fin 2 → Nat} {o o' oS oS' : Fin 1 → Nat} (hR : oR = oR') (ho : o = o') (hS : oS = oS')
    (iR : ∀ x, oR x + S1x131072.size x ≤ S16x1000000.size x) (iV : ∀ x, o x + S131072.size x ≤ S1000000.size x) (iB : ∀ x, o x + S131072.size x ≤ S917504.size x) (iS : ∀ x, oS x + S1.size x ≤ S7.size x)
    (iR' : ∀ x, oR' x + S1x131072.size x ≤ S16x1000000.size x) (iV' : ∀ x, o' x + S131072.size x ≤ S1000000.size x) (iB' : ∀ x, o' x + S131072.size x ≤ S917504.size x) (iS' : ∀ x, oS' x + S1.size x ≤ S7.size x) :
    freeO c R B oR o oS iR iV iB iS ⊢ freeO c R B oR' o' oS' iR' iV' iB' iS' := by
  subst hR ho hS; exact .rfl
/-- A chunk's offsets may be spelled in any way: on its way. -/
theorem inflO_move (c : Dev nD) (R : BufOf (F := F) c rowM) (B : BufOf (F := F) c belM) {oR oR' : Fin 2 → Nat} {o o' oS oS' : Fin 1 → Nat} (hR : oR = oR') (ho : o = o') (hS : oS = oS')
    (iR : ∀ x, oR x + S1x131072.size x ≤ S16x1000000.size x) (iV : ∀ x, o x + S131072.size x ≤ S1000000.size x) (iB : ∀ x, o x + S131072.size x ≤ S917504.size x) (iS : ∀ x, oS x + S1.size x ≤ S7.size x)
    (iR' : ∀ x, oR' x + S1x131072.size x ≤ S16x1000000.size x) (iV' : ∀ x, o' x + S131072.size x ≤ S1000000.size x) (iB' : ∀ x, o' x + S131072.size x ≤ S917504.size x) (iS' : ∀ x, oS' x + S1.size x ≤ S7.size x) :
    inflO c R B oR o oS iR iV iB iS ⊢ inflO c R B oR' o' oS' iR' iV' iB' iS' := by
  subst hR ho hS; exact .rfl

end Cert.KernelIdeal.Hand

end
-- ==== Proof.KernelIdeal.Chunk.lean ====
module

public import proofs.«01_k».proof.Proof.KernelIdeal.Windows
public import Idealize.ShloMosaic.Lib.WritesUnit

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The body, at the operands the pipeline calls it with. -/
abbrev bodyAt (i : grid0.Coords) (mo : Memref sig .tc .vmem S131072 .f32) (ho : mo.IsWhole) : Prog (TpuEff nD τ sig (Elt F) Λ₀ .tc) PUnit :=
  cc0__body i (Memref.whole main_v1) (Memref.isWhole_whole _) (Memref.whole main_v0) (Memref.isWhole_whole _) (Memref.whole main_arg0) (Memref.isWhole_whole _) mo ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8

theorem colO_sub (o : Fin 1 → Nat) (h : ∀ x, o x + S131072.size x ≤ S917504.size x) :
    (colM.access (Rect.unit (s := S917504) o S131072.size h)).set ⊆ (colO o h).view.set := by
  exact subset_rfl
theorem bufO_sub (o : Fin 1 → Nat) (h : ∀ x, o x + S131072.size x ≤ S917504.size x) :
    (bufM.access (Rect.unit (s := S917504) o S131072.size h)).set ⊆ (bufO o h).view.set := by
  exact subset_rfl

/-- A memref read after one write of all of it holds what was written. -/
theorem read_landed {sp : Space} {S : Shape} {e : EltTy} (M : Memref sig .tc sp S e) (f : M.view.ty.Contents (Elt F)) (w : S.Idx → Elt F e) :
    M.view.read (Elt F) (M.view.writes (Elt F) f [⟨Rect.whole S, w⟩]) = w := by
  rw [View.writes_singleton]
  funext y
  have := View.read_write_univ (v := M.view.slice (Rect.whole S)) (Val := Elt F) f w
  have h2 := congrFun this y
  rw [← h2]
  show M.view.read (Elt F) _ y = M.view.read (Elt F) _ ((Rect.whole S).emb y)
  rw [Rect.emb_whole_apply]

/-- Reading a chunk of the row's buffer through the whole buffer reads the chunk. -/
theorem readAt_col (o : Fin 1 → Nat) (h : ∀ x, o x + S131072.size x ≤ S917504.size x) (f : colM.view.ty.Contents (Elt F)) :
    View.readAt (Elt F) colM.view (Rect.unit (s := S917504) o S131072.size h).toLoadRect f = (colO o h).view.read (Elt F) f := rfl

/-- Reading a chunk of the belief's buffer through the whole buffer reads the chunk. -/
theorem readAt_buf (o : Fin 1 → Nat) (h : ∀ x, o x + S131072.size x ≤ S917504.size x) (f : bufM.view.ty.Contents (Elt F)) :
    View.readAt (Elt F) bufM.view (Rect.unit (s := S917504) o S131072.size h).toLoadRect f = (bufO o h).view.read (Elt F) f := rfl

/-- The one element a scalar buffer holds after a write of it. -/
theorem acc_written (f : accM.view.ty.Contents (Elt F)) (y : Elt F .f32) (ws : List (View.Piece (Elt F) S1 .f32)) :
    accM.view.writes (Elt F) f (⟨Rect.unit (s := S1) ![0] S1.size inb_S1_S1_0, fun _ => y⟩ :: ws) = fun _ => y := by
  funext k
  exact View.read_writes_cons_unit_of_mem accM.view f inb_S1_S1_0 (fun _ => y) ws k k rfl (by
    intro x
    obtain rfl : x = (0 : Fin 1) := Subsingleton.elim (α := Fin 1) _ _
    show (k (0 : Fin 1)).val = 0 + (k (0 : Fin 1)).val
    omega)

/-- One later grid point of the first phase: its chunk waited for, multiplied, stored and summed. -/
theorem run_chunk (c : Dev nD) (i : grid0.Coords) (h1 : k0_cond1 i = 1#1) (h2 : ¬ k0_cond2 i = 1#1) (h3 : k0_cond3 i = 1#1)
    (h4 : ¬ k0_cond4 i = 1#1) (h5 : ¬ k0_cond5 i = 1#1)
    (o9 o11 o12 : Fin 1 → Nat) (i9 : ∀ x, o9 x + S1.size x ≤ S7.size x) (i11 : ∀ x, o11 x + S131072.size x ≤ S917504.size x) (i12 : ∀ x, o12 x + S131072.size x ≤ S1000000.size x)
    (h9 : k0_off9 i = o9) (h11 : k0_off11 i = o11) (h12 : k0_off12 i = o12)
    (mo : Memref sig .tc .vmem S131072 .f32) (ho : mo.IsWhole)
    (v0 : BitVec 32) (hchk : k0_chk1 i v0) (src : Memref sig .tc .hbm S131072 .f32) (bsrc : Memref sig .tc .hbm S131072 .f32)
    (fs : BufOf (F := F) c src) (fd : BufOf (F := F) c (colO o11 i11)) (gs : BufOf (F := F) c bsrc) (gd : BufOf (F := F) c (bufO o11 i11))
    (fp : BufOf (F := F) c prodM) (x : Elt F .f32) (W : Waits sig Unit)
    (K : PUnit → sProp 𝕄) :
    iprop(heldTab c (fun _ => v0) ∗ inflight c src (colO o11 i11) (semCO o9 i9) fs fd ∗ inflight c bsrc (bufO o11 i11) (semBO o9 i9) gs gd
        ∗ heldAll c prodM fp ∗ heldAll c accM (fun _ => x) ∗ owes (c : Thread nD τ) 0 W
        ∗ ((heldTab c (fun _ => v0)
            ∗ (semVal ((c : Thread nD τ), SemLoc.dma (semCO o9 i9)) 0 ∗ (∃ f, heldOwn c (colO o11 i11) f) ∗ heldOwn c src fs)
            ∗ (semVal ((c : Thread nD τ), SemLoc.dma (semBO o9 i9)) 0 ∗ (∃ f, heldOwn c (bufO o11 i11) f) ∗ heldOwn c bsrc gs)
            ∗ heldAll c prodM (prodM.view.writes (Elt F) fp [⟨Rect.unit (s := S1000000) o12 S131072.size i12, k0_pay2 (src.view.read (Elt F) fs) (bsrc.view.read (Elt F) gs)⟩])
            ∗ heldAll c accM (fun _ => k0_pay3 (src.view.read (Elt F) fs) (bsrc.view.read (Elt F) gs) x)
            ∗ (∃ W, owes (c : Thread nD τ) 0 W)) -∗ K ⟨⟩))
      ⊢ wp frame (wpE (defs₀ (F := F)) Variants.none (c : Thread nD τ) none) Set.univ (bodyAt (F := F) i mo ho) K := by
  subst h9 h11 h12
  have hs1 := colO_sub _ i11
  have hs2 := bufO_sub _ i11
  unfold bodyAt
  simp only [cc0__body_eq_skeleton]
  unfold cc0__body_skel
  iintro ⟨Ht, HF, HG, Hp, Ha, HO, HK⟩
  sl_exec
  sl_step
  have hv : run_chunk.sl.v27 c i h1 h3 src fs i11 = src.view.read (Elt F) fs := by
    unfold run_chunk.sl.v27; rw [readAt_col, read_landed]
  have hw : run_chunk.sl.v30 c i h1 h3 bsrc gs i11 = bsrc.view.read (Elt F) gs := by
    unfold run_chunk.sl.v30; rw [readAt_buf, read_landed]
  have hx : run_chunk.sl.r_1 c x = x := rfl
  rw [hv, hw, hx, acc_written]
  iapply HK
  isplitl [Ht]; · iexact Ht
  isplitl [HF HF_dst HF_src]
  · isplitl [HF]; · iexact HF
    isplitl [HF_dst]; · iexists _; iexact HF_dst
    iexact HF_src
  isplitl [HG HG_dst HG_src]
  · isplitl [HG]; · iexact HG
    isplitl [HG_dst]; · iexists _; iexact HG_dst
    iexact HG_src
  isplitl [Hp]; · iexact Hp
  isplitl [Ha]; · iexact Ha
  iexists _; iexact HO

end Cert.KernelIdeal.Hand

end
-- ==== Proof.KernelIdeal.First.lean ====
/-
  Hand-written, untrusted. The first grid point: every transfer issued, then the first chunk waited for, multiplied,
  stored and summed.
-/
module

public import proofs.«01_k».proof.Proof.KernelIdeal.Chunk

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The first grid point's run. -/
theorem run_first (c : Dev nD) (i : grid0.Coords) (h1 : k0_cond1 i = 1#1) (h2 : k0_cond2 i = 1#1) (h3 : k0_cond3 i = 1#1)
    (h4 : ¬ k0_cond4 i = 1#1) (h5 : ¬ k0_cond5 i = 1#1) (h9 : k0_off9 i = ![0]) (h11 : k0_off11 i = ![0])
    (i11V : ∀ x, k0_off11 i x + S131072.size x ≤ S1000000.size x)
    (mo : Memref sig .tc .vmem S131072 .f32) (ho : mo.IsWhole)
    (v0 : BitVec 32) (hchk : k0_chk1 i v0) (R : BufOf (F := F) c rowM) (B : BufOf (F := F) c belM)
    (fp : BufOf (F := F) c prodM) (fa : BufOf (F := F) c accM) (W : Waits sig Unit)
    (K : PUnit → sProp 𝕄) :
    iprop(heldTab c (fun _ => v0)
        ∗ freeO c R B (k0_off1 v0) ![0] ![0] (k0_off1_inb i v0 hchk h1 h2) inb_S1000000_S131072_0 inb_S917504_S131072_0 inb_S7_S1_0
        ∗ freeO c R B (k0_off2 v0) ![131072] ![1] (k0_off2_inb i v0 hchk h1 h2) inb_S1000000_S131072_131072 inb_S917504_S131072_131072 inb_S7_S1_1
        ∗ freeO c R B (k0_off3 v0) ![262144] ![2] (k0_off3_inb i v0 hchk h1 h2) inb_S1000000_S131072_262144 inb_S917504_S131072_262144 inb_S7_S1_2
        ∗ freeO c R B (k0_off4 v0) ![393216] ![3] (k0_off4_inb i v0 hchk h1 h2) inb_S1000000_S131072_393216 inb_S917504_S131072_393216 inb_S7_S1_3
        ∗ freeO c R B (k0_off5 v0) ![524288] ![4] (k0_off5_inb i v0 hchk h1 h2) inb_S1000000_S131072_524288 inb_S917504_S131072_524288 inb_S7_S1_4
        ∗ freeO c R B (k0_off6 v0) ![655360] ![5] (k0_off6_inb i v0 hchk h1 h2) inb_S1000000_S131072_655360 inb_S917504_S131072_655360 inb_S7_S1_5
        ∗ freeO c R B (k0_off7 v0) ![786432] ![6] (k0_off7_inb i v0 hchk h1 h2) inb_S1000000_S131072_786432 inb_S917504_S131072_786432 inb_S7_S1_6
        ∗ freeTO c R B (k0_off8 v0) (k0_off8_inb i v0 hchk h1 h2)
        ∗ heldAll c prodM fp ∗ heldAll c accM fa ∗ owes (c : Thread nD τ) 0 W
        ∗ ((heldTab c (fun _ => v0)
          ∗ freeO c R B (k0_off1 v0) (k0_off11 i) (k0_off9 i) (k0_off1_inb i v0 hchk h1 h2) i11V (k0_off11_inb i h1 h3) (k0_off9_inb i h1 h3)
          ∗ inflO c R B (k0_off2 v0) ![131072] ![1] (k0_off2_inb i v0 hchk h1 h2) inb_S1000000_S131072_131072 inb_S917504_S131072_131072 inb_S7_S1_1
          ∗ inflO c R B (k0_off3 v0) ![262144] ![2] (k0_off3_inb i v0 hchk h1 h2) inb_S1000000_S131072_262144 inb_S917504_S131072_262144 inb_S7_S1_2
          ∗ inflO c R B (k0_off4 v0) ![393216] ![3] (k0_off4_inb i v0 hchk h1 h2) inb_S1000000_S131072_393216 inb_S917504_S131072_393216 inb_S7_S1_3
          ∗ inflO c R B (k0_off5 v0) ![524288] ![4] (k0_off5_inb i v0 hchk h1 h2) inb_S1000000_S131072_524288 inb_S917504_S131072_524288 inb_S7_S1_4
          ∗ inflO c R B (k0_off6 v0) ![655360] ![5] (k0_off6_inb i v0 hchk h1 h2) inb_S1000000_S131072_655360 inb_S917504_S131072_655360 inb_S7_S1_5
          ∗ inflO c R B (k0_off7 v0) ![786432] ![6] (k0_off7_inb i v0 hchk h1 h2) inb_S1000000_S131072_786432 inb_S917504_S131072_786432 inb_S7_S1_6
          ∗ inflTO c R B (k0_off8 v0) (k0_off8_inb i v0 hchk h1 h2)
          ∗ heldAll c prodM (prodM.view.writes (Elt F) fp [⟨Rect.unit (s := S1000000) (k0_off12 i) S131072.size (k0_off12_inb i h1 h3),
              k0_pay2 ((rowO (k0_off1 v0) (k0_off1_inb i v0 hchk h1 h2)).view.read (Elt F) R) ((belO (k0_off11 i) i11V).view.read (Elt F) B)⟩])
          ∗ heldAll c accM (fun _ => k0_pay3 ((rowO (k0_off1 v0) (k0_off1_inb i v0 hchk h1 h2)).view.read (Elt F) R) ((belO (k0_off11 i) i11V).view.read (Elt F) B) (Scalar.ofBits .f32 0x00000000#32))
          ∗ (∃ W, owes (c : Thread nD τ) 0 W)) -∗ K ⟨⟩))
      ⊢ wp frame (wpE (defs₀ (F := F)) Variants.none (c : Thread nD τ) none) Set.univ (bodyAt (F := F) i mo ho) K := by
  have hs1 := colO_sub _ (k0_off11_inb i h1 h3)
  have hs2 := bufO_sub _ (k0_off11_inb i h1 h3)
  unfold bodyAt
  simp only [cc0__body_eq_skeleton]
  unfold cc0__body_skel
  simp only [k0_part1_eq_skeleton, k0_part2_eq_skeleton]
  unfold k0_part1_skel k0_part2_skel
  iintro ⟨Ht, ⟨⟨Hc0, ⟨%f0, Hd0⟩, Hr0⟩, ⟨Hb0, ⟨%g0, He0⟩, Hs0⟩⟩, ⟨⟨Hc1, ⟨%f1, Hd1⟩, Hr1⟩, ⟨Hb1, ⟨%g1, He1⟩, Hs1⟩⟩, ⟨⟨Hc2, ⟨%f2, Hd2⟩, Hr2⟩, ⟨Hb2, ⟨%g2, He2⟩, Hs2⟩⟩, ⟨⟨Hc3, ⟨%f3, Hd3⟩, Hr3⟩, ⟨Hb3, ⟨%g3, He3⟩, Hs3⟩⟩, ⟨⟨Hc4, ⟨%f4, Hd4⟩, Hr4⟩, ⟨Hb4, ⟨%g4, He4⟩, Hs4⟩⟩, ⟨⟨Hc5, ⟨%f5, Hd5⟩, Hr5⟩, ⟨Hb5, ⟨%g5, He5⟩, Hs5⟩⟩, ⟨⟨Hc6, ⟨%f6, Hd6⟩, Hr6⟩, ⟨Hb6, ⟨%g6, He6⟩, Hs6⟩⟩, ⟨⟨Hc7, ⟨%f7, Hd7⟩, Hr7⟩, ⟨Hb7, ⟨%g7, He7⟩, Hs7⟩⟩, Hp, Ha, HO, HK⟩
  sl_exec
  ihave HX : inflO c R B (k0_off1 v0) (k0_off11 i) (k0_off9 i) (k0_off1_inb i v0 hchk h1 h2) i11V (k0_off11_inb i h1 h3) (k0_off9_inb i h1 h3) $$ [Hc0 Hb0]
  · iapply inflO_move c R B rfl h11.symm h9.symm (k0_off1_inb i v0 hchk h1 h2) inb_S1000000_S131072_0 inb_S917504_S131072_0 inb_S7_S1_0
    isplitl [Hc0]
    · iexists f0; iexact Hc0
    · iexists g0; iexact Hb0
  icases HX with ⟨⟨%f0', HF⟩, ⟨%g0', HG⟩⟩
  sl_exec
  sl_step
  have hv : run_first.sl.v27 c i h1 h2 h3 v0 hchk R = (rowO (k0_off1 v0) (k0_off1_inb i v0 hchk h1 h2)).view.read (Elt F) R := by
    unfold run_first.sl.v27; rw [readAt_col, read_landed]
  have hw : run_first.sl.v30 c i h1 h3 i11V B = (belO (k0_off11 i) i11V).view.read (Elt F) B := by
    unfold run_first.sl.v30; rw [readAt_buf, read_landed]
  rw [hv, hw, acc_written]
  iapply HK
  isplitl [Ht]; · iexact Ht
  isplitl [HF HF_dst HF_src HG HG_dst HG_src]
  · isplitl [HF HF_dst HF_src]
    · isplitl [HF]; · iexact HF
      isplitl [HF_dst]; · iexists _; iexact HF_dst
      iexact HF_src
    · isplitl [HG]; · iexact HG
      isplitl [HG_dst]; · iexists _; iexact HG_dst
      iexact HG_src
  isplitl [Hc1 Hb1]
  · isplitl [Hc1]
    · iexists f1; iexact Hc1
    · iexists g1; iexact Hb1
  isplitl [Hc2 Hb2]
  · isplitl [Hc2]
    · iexists f2; iexact Hc2
    · iexists g2; iexact Hb2
  isplitl [Hc3 Hb3]
  · isplitl [Hc3]
    · iexists f3; iexact Hc3
    · iexists g3; iexact Hb3
  isplitl [Hc4 Hb4]
  · isplitl [Hc4]
    · iexists f4; iexact Hc4
    · iexists g4; iexact Hb4
  isplitl [Hc5 Hb5]
  · isplitl [Hc5]
    · iexists f5; iexact Hc5
    · iexists g5; iexact Hb5
  isplitl [Hc6 Hb6]
  · isplitl [Hc6]
    · iexists f6; iexact Hc6
    · iexists g6; iexact Hb6
  isplitl [Hc7 Hb7]
  · isplitl [Hc7]
    · iexists f7; iexact Hc7
    · iexists g7; iexact Hb7
  isplitl [Hp]; · iexact Hp
  isplitl [Ha]; · iexact Ha
  iexists _; iexact HO

end Cert.KernelIdeal.Hand

end
-- ==== Proof.KernelIdeal.Later.lean ====
/-
  Hand-written, untrusted. The grid points after the transfers: the tail waited for, multiplied, stored and summed; then
  the second phase's points, each scaling a chunk of the products by the reciprocal of the sum into the output's window.
-/
module

public import proofs.«01_k».proof.Proof.KernelIdeal.Chunk

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Reading all of the row tail's buffer. -/
theorem readAt_colT (f : colT.view.ty.Contents (Elt F)) :
    View.readAt (Elt F) colT.view (Rect.unit (s := S82496) ![0] S82496.size inb_S82496_S82496_0).toLoadRect f = colT.view.read (Elt F) f := by
  funext y
  refine congrArg f (funext fun x => Fin.ext ?_)
  obtain rfl : x = (0 : Fin 1) := Subsingleton.elim (α := Fin 1) _ _
  show 0 + 1 * (y (0 : Fin 1)).val = (y (0 : Fin 1)).val
  omega

/-- Reading all of the belief tail's buffer. -/
theorem readAt_bufT (f : bufT.view.ty.Contents (Elt F)) :
    View.readAt (Elt F) bufT.view (Rect.unit (s := S82496) ![0] S82496.size inb_S82496_S82496_0).toLoadRect f = bufT.view.read (Elt F) f :=
  readAt_colT f

/-- The grid point of the tail. -/
theorem run_tail (c : Dev nD) (i : grid0.Coords) (h1 : k0_cond1 i = 1#1) (h2 : ¬ k0_cond2 i = 1#1) (h3 : ¬ k0_cond3 i = 1#1)
    (h4 : k0_cond4 i = 1#1) (h5 : ¬ k0_cond5 i = 1#1)
    (mo : Memref sig .tc .vmem S131072 .f32) (ho : mo.IsWhole)
    (v0 : BitVec 32) (hchk : k0_chk1 i v0) (src : Memref sig .tc .hbm S82496 .f32) (bsrc : Memref sig .tc .hbm S82496 .f32)
    (fs : BufOf (F := F) c src) (fd : BufOf (F := F) c colT) (gs : BufOf (F := F) c bsrc) (gd : BufOf (F := F) c bufT)
    (fp : BufOf (F := F) c prodM) (x : Elt F .f32) (W : Waits sig Unit)
    (K : PUnit → sProp 𝕄) :
    iprop(heldTab c (fun _ => v0) ∗ inflight c src colT semT0 fs fd ∗ inflight c bsrc bufT semT1 gs gd
        ∗ heldAll c prodM fp ∗ heldAll c accM (fun _ => x) ∗ owes (c : Thread nD τ) 0 W
        ∗ ((heldTab c (fun _ => v0)
            ∗ (semVal ((c : Thread nD τ), SemLoc.dma semT0) 0 ∗ (∃ f, heldOwn c colT f) ∗ heldOwn c src fs)
            ∗ (semVal ((c : Thread nD τ), SemLoc.dma semT1) 0 ∗ (∃ f, heldOwn c bufT f) ∗ heldOwn c bsrc gs)
            ∗ heldAll c prodM (prodM.view.writes (Elt F) fp [⟨Rect.unit (s := S1000000) ![917504] S82496.size inb_S1000000_S82496_917504, k0_pay5 (src.view.read (Elt F) fs) (bsrc.view.read (Elt F) gs)⟩])
            ∗ heldAll c accM (fun _ => k0_pay6 (src.view.read (Elt F) fs) (bsrc.view.read (Elt F) gs) x)
            ∗ (∃ W, owes (c : Thread nD τ) 0 W)) -∗ K ⟨⟩))
      ⊢ wp frame (wpE (defs₀ (F := F)) Variants.none (c : Thread nD τ) none) Set.univ (bodyAt (F := F) i mo ho) K := by
  unfold bodyAt
  simp only [cc0__body_eq_skeleton]
  unfold cc0__body_skel
  iintro ⟨Ht, HF, HG, Hp, Ha, HO, HK⟩
  sl_exec
  sl_step
  have hv : run_tail.sl.v23 c src fs = src.view.read (Elt F) fs := by
    unfold run_tail.sl.v23 View.readCov; rw [readAt_colT, read_landed]
  have hw : run_tail.sl.v24 c bsrc gs = bsrc.view.read (Elt F) gs := by
    unfold run_tail.sl.v24 View.readCov; rw [readAt_bufT, read_landed]
  have hx : run_tail.sl.r_1 c x = x := rfl
  rw [hv, hw, hx, acc_written]
  iapply HK
  isplitl [Ht]; · iexact Ht
  isplitl [HF HF_dst HF_src]
  · isplitl [HF]; · iexact HF
    isplitl [HF_dst]; · iexists _; iexact HF_dst
    iexact HF_src
  isplitl [HG HG_dst HG_src]
  · isplitl [HG]; · iexact HG
    isplitl [HG_dst]; · iexists _; iexact HG_dst
    iexact HG_src
  isplitl [Hp]; · iexact Hp
  isplitl [Ha]; · iexact Ha
  iexists _; iexact HO

/-- A grid point of the second phase, on a chunk. -/
theorem run_out (c : Dev nD) (i : grid0.Coords) (h1 : ¬ k0_cond1 i = 1#1)
    (h5 : k0_cond5 i = 1#1) (h6 : k0_cond6 i = 1#1) (h7 : ¬ k0_cond7 i = 1#1)
    (mo : Memref sig .tc .vmem S131072 .f32) (ho : mo.IsWhole)
    (v0 : BitVec 32) (hchk : k0_chk1 i v0)
    (fp : BufOf (F := F) c prodM) (x : Elt F .f32) (fo : BufOf (F := F) c mo)
    (K : PUnit → sProp 𝕄) :
    iprop(heldTab c (fun _ => v0) ∗ heldAll c prodM fp ∗ heldAll c accM (fun _ => x) ∗ heldAll c mo fo
        ∗ ((heldTab c (fun _ => v0) ∗ heldAll c prodM fp ∗ heldAll c accM (fun _ => x)
            ∗ heldAll c mo (mo.view.writes (Elt F) fo [⟨Rect.unit (s := S131072) ![0] S131072.size inb_S131072_S131072_0,
                k0_pay8 x (View.readAt (Elt F) prodM.view (Rect.unit (s := S1000000) (k0_off14 i) S131072.size (k0_off14_inb i h5 h6)).toLoadRect fp)⟩])) -∗ K ⟨⟩))
      ⊢ wp frame (wpE (defs₀ (F := F)) Variants.none (c : Thread nD τ) none) Set.univ (bodyAt (F := F) i mo ho) K := by
  unfold bodyAt
  simp only [cc0__body_eq_skeleton]
  unfold cc0__body_skel
  iintro ⟨Ht, Hp, Ha, Hm, HK⟩
  sl_exec
  sl_step
  have hx : run_out.sl.r_1 c x = x := rfl
  rw [hx]
  iapply HK
  isplitl [Ht]; · iexact Ht
  isplitl [Hp]; · iexact Hp
  isplitl [Ha]; · iexact Ha
  iexact Hm

/-- The grid point of the second phase on the tail. -/
theorem run_out_tail (c : Dev nD) (i : grid0.Coords) (h1 : ¬ k0_cond1 i = 1#1)
    (h5 : k0_cond5 i = 1#1) (h6 : ¬ k0_cond6 i = 1#1) (h7 : k0_cond7 i = 1#1)
    (mo : Memref sig .tc .vmem S131072 .f32) (ho : mo.IsWhole)
    (v0 : BitVec 32) (hchk : k0_chk1 i v0)
    (fp : BufOf (F := F) c prodM) (x : Elt F .f32) (fo : BufOf (F := F) c mo)
    (K : PUnit → sProp 𝕄) :
    iprop(heldTab c (fun _ => v0) ∗ heldAll c prodM fp ∗ heldAll c accM (fun _ => x) ∗ heldAll c mo fo
        ∗ ((heldTab c (fun _ => v0) ∗ heldAll c prodM fp ∗ heldAll c accM (fun _ => x)
            ∗ heldAll c mo (mo.view.writes (Elt F) fo [⟨Rect.unit (s := S131072) ![0] S82496.size inb_S131072_S82496_0,
                k0_pay9 x (View.readAt (Elt F) prodM.view (Rect.unit (s := S1000000) ![917504] S82496.size inb_S1000000_S82496_917504).toLoadRect fp)⟩])) -∗ K ⟨⟩))
      ⊢ wp frame (wpE (defs₀ (F := F)) Variants.none (c : Thread nD τ) none) Set.univ (bodyAt (F := F) i mo ho) K := by
  unfold bodyAt
  simp only [cc0__body_eq_skeleton]
  unfold cc0__body_skel
  iintro ⟨Ht, Hp, Ha, Hm, HK⟩
  sl_exec
  sl_step
  have hx : run_out_tail.sl.r_1 c x = x := rfl
  rw [hx]
  iapply HK
  isplitl [Ht]; · iexact Ht
  isplitl [Hp]; · iexact Hp
  isplitl [Ha]; · iexact Ha
  iexact Hm

end Cert.KernelIdeal.Hand

end
-- ==== Proof.KernelIdeal.State.lean ====
/-
  Hand-written, untrusted. What the kernel holds between grid points: the chunks and the tail at rest or in flight, the
  products written so far, and the running sum.
-/
module

public import proofs.«01_k».proof.Proof.KernelIdeal.First
public import proofs.«01_k».proof.Proof.KernelIdeal.Later
public import Idealize.SL.ProofMode.BigOp
public import Idealize.ShloMosaic.Lib.ValueIdxCore

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1)
open Idealize.ShloMosaic.Pipeline (Dat Cfg Window BodyObligation cellOf)

variable {F : FTy → Type} [FloatOps F]

local notation "𝕄" => MT nD τ sig Unit (Elt F) ℕ (Pipeline.UD sig nD τ) ℕ

/-- A word below 16 passes the body's check on every transfer's offsets. -/
theorem chk_of_lt (i : grid0.Coords) (v0 : BitVec 32) (hv : v0.toNat < 16) : k0_chk1 i v0 :=
  ⟨fun _ _ => inbRow v0.toNat hv 0, fun _ _ => inbRow v0.toNat hv 1, fun _ _ => inbRow v0.toNat hv 2, fun _ _ => inbRow v0.toNat hv 3,
    fun _ _ => inbRow v0.toNat hv 4, fun _ _ => inbRow v0.toNat hv 5, fun _ _ => inbRow v0.toNat hv 6, fun _ _ => inbRowT v0.toNat hv,
    fun _ _ => inbRow v0.toNat hv 0, fun _ _ => inbRowT v0.toNat hv⟩

section State

variable (c : Dev nD) (R : BufOf (F := F) c rowM) (B : BufOf (F := F) c belM) (v0 : BitVec 32) (hv : v0.toNat < 16)

/-- Chunk `j` at rest, on its way, and its state before grid point `t`. -/
abbrev freeJ (j : Fin 7) : sProp 𝕄 := freeO c R B ![v0.toNat, j.val * 131072] ![j.val * 131072] ![j.val] (inbRow v0.toNat hv j) (inbVec j) (inbBuf j) (inbSem j)
abbrev inflJ (j : Fin 7) : sProp 𝕄 := inflO c R B ![v0.toNat, j.val * 131072] ![j.val * 131072] ![j.val] (inbRow v0.toNat hv j) (inbVec j) (inbBuf j) (inbSem j)
def chunkAt (t : Nat) (j : Fin 7) : sProp 𝕄 := if 1 ≤ t ∧ t ≤ j.val then inflJ c R B v0 hv j else freeJ c R B v0 hv j
/-- The chunks before grid point `t`. -/
def chunks (t : Nat) : sProp 𝕄 := bigSep Finset.univ (chunkAt c R B v0 hv t)
/-- The tail before grid point `t`. -/
def tailAt (t : Nat) : sProp 𝕄 :=
  if 1 ≤ t ∧ t ≤ 7 then inflTO c R B ![v0.toNat, 917504] (inbRowT v0.toNat hv) else freeTO c R B ![v0.toNat, 917504] (inbRowT v0.toNat hv)

theorem chunkAt_free (t : Nat) (j : Fin 7) (h : ¬ (1 ≤ t ∧ t ≤ j.val)) : chunkAt c R B v0 hv t j = freeJ c R B v0 hv j := if_neg h
theorem chunkAt_infl (t : Nat) (j : Fin 7) (h : 1 ≤ t ∧ t ≤ j.val) : chunkAt c R B v0 hv t j = inflJ c R B v0 hv j := if_pos h
theorem tailAt_free (t : Nat) (h : ¬ (1 ≤ t ∧ t ≤ 7)) : tailAt c R B v0 hv t = freeTO c R B ![v0.toNat, 917504] (inbRowT v0.toNat hv) := if_neg h
theorem tailAt_infl (t : Nat) (h : 1 ≤ t ∧ t ≤ 7) : tailAt c R B v0 hv t = inflTO c R B ![v0.toNat, 917504] (inbRowT v0.toNat hv) := if_pos h

/-- Every chunk is at rest before the first point and after the seventh. -/
theorem chunks_free (t : Nat) (h : t = 0 ∨ 7 ≤ t) : chunks c R B v0 hv t = bigSep Finset.univ (freeJ c R B v0 hv) := by
  unfold chunks
  exact congrArg (bigSep Finset.univ) (funext fun j => chunkAt_free c R B v0 hv t j (by have := j.isLt; omega))

/-- The chunks one by one. -/
theorem chunks_list (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- Before point `t` of the first phase's later points chunk `t` is on its way; -/
theorem chunks_at (t : Nat) (j : Fin 7) (ht : t = j.val) (h1 : 1 ≤ t) :
    chunks c R B v0 hv t = iprop(inflJ c R B v0 hv j ∗ bigSep (Finset.univ.erase j) (chunkAt c R B v0 hv (t + 1))) := by
  unfold chunks
  rw [bigSep_univ_split j, chunkAt_infl c R B v0 hv t j (by omega)]
  refine congrArg (fun X => iprop(inflJ c R B v0 hv j ∗ X)) (bigSep_congr fun k hk => ?_)
  have hne : k.val ≠ j.val := fun h => (Finset.mem_erase.mp hk).1 (Fin.ext h)
  unfold chunkAt
  exact if_congr (by omega) rfl rfl
/-- after it, at rest, and the others as they were. -/
theorem chunks_after (t : Nat) (j : Fin 7) (ht : t = j.val) :
    chunks c R B v0 hv (t + 1) = iprop(freeJ c R B v0 hv j ∗ bigSep (Finset.univ.erase j) (chunkAt c R B v0 hv (t + 1))) := by
  unfold chunks
  rw [bigSep_univ_split j, chunkAt_free c R B v0 hv (t + 1) j (by omega)]
  rfl

/-! ## The products and the sum -/

/-- Chunk `j` of the chosen row, of the belief; their tails. -/
abbrev rowV (j : Fin 7) : FVec F S131072 .f32 := (rowJ v0.toNat hv j).view.read (Elt F) R
abbrev belV (j : Fin 7) : FVec F S131072 .f32 := (belJ j).view.read (Elt F) B
abbrev rowTV : FVec F S82496 .f32 := (rowT v0.toNat hv).view.read (Elt F) R
abbrev belTV : FVec F S82496 .f32 := belT.view.read (Elt F) B

/-- The product at element `k`: of its chunk's, or of the tail's. -/
def prodAt (k : S1000000.Idx) : Elt F .f32 :=
  if h : (k (0 : Fin 1)).val < 917504 then
    k0_pay2 (rowV c R v0 hv ⟨(k (0 : Fin 1)).val / 131072, by omega⟩) (belV c B ⟨(k (0 : Fin 1)).val / 131072, by omega⟩)
      (ix1 ⟨(k (0 : Fin 1)).val % 131072, by omega⟩)
  else
    k0_pay5 (rowTV c R v0 hv) (belTV c B) (ix1 ⟨(k (0 : Fin 1)).val - 917504, by have : (k (0 : Fin 1)).val < 1000000 := (k (0 : Fin 1)).isLt; omega⟩)

/-- The running sum before grid point `t`. -/
def accAt : Nat → Elt F .f32
  | 0 => Scalar.ofBits .f32 0x00000000#32
  | t + 1 => if h : t < 7 then k0_pay3 (rowV c R v0 hv ⟨t, h⟩) (belV c B ⟨t, h⟩) (accAt t)
    else if t = 7 then k0_pay6 (rowTV c R v0 hv) (belTV c B) (accAt t) else accAt t

theorem accAt_chunk (t : Nat) (h : t < 7) : accAt c R B v0 hv (t + 1) = k0_pay3 (rowV c R v0 hv ⟨t, h⟩) (belV c B ⟨t, h⟩) (accAt c R B v0 hv t) := by
  conv_lhs => unfold accAt
  exact dif_pos h
theorem accAt_tail : accAt c R B v0 hv 8 = k0_pay6 (rowTV c R v0 hv) (belTV c B) (accAt c R B v0 hv 7) := by
  conv_lhs => unfold accAt
  rfl
theorem accAt_late (t : Nat) (h : 8 ≤ t) : accAt c R B v0 hv (t + 1) = accAt c R B v0 hv t := by
  conv_lhs => unfold accAt
  rw [dif_neg (by omega), if_neg (by omega)]

/-- The products written before grid point `t`. -/
def WrittenTo (t : Nat) (g : BufOf (F := F) c prodM) : Prop :=
  ∀ k : S1000000.Idx, (k (0 : Fin 1)).val < 131072 * t → g k = prodAt c R B v0 hv k

/-- A write of consecutive products, read inside what it covers, -/
theorem prod_hit (n : Nat) (g : BufOf (F := F) c prodM) (o : Fin 1 → Nat) (io : ∀ x, o x + (⟨1, ![n]⟩ : Shape).size x ≤ S1000000.size x)
    (w : (⟨1, ![n]⟩ : Shape).Idx → Elt F .f32) (b : Nat) (ho : o = ![b]) (k : S1000000.Idx) (q : Fin n) (hk : (k (0 : Fin 1)).val = b + q.val) :
    prodM.view.writes (Elt F) g [⟨Rect.unit (s := S1000000) o (⟨1, ![n]⟩ : Shape).size io, w⟩] k = w (ix1 q) := by
  have h := View.read_writes_cons_unit_of_mem prodM.view g io w [] k (ix1 q) ho (by
    intro x
    obtain rfl : x = (0 : Fin 1) := Subsingleton.elim (α := Fin 1) _ _
    exact hk)
  exact h
/-- and outside it. -/
theorem prod_miss (n : Nat) (g : BufOf (F := F) c prodM) (o : Fin 1 → Nat) (io : ∀ x, o x + (⟨1, ![n]⟩ : Shape).size x ≤ S1000000.size x)
    (w : (⟨1, ![n]⟩ : Shape).Idx → Elt F .f32) (b : Nat) (ho : o = ![b]) (k : S1000000.Idx) (hk : (k (0 : Fin 1)).val < b) :
    prodM.view.writes (Elt F) g [⟨Rect.unit (s := S1000000) o (⟨1, ![n]⟩ : Shape).size io, w⟩] k = g k := by
  have h := View.read_writes_cons_unit_of_not_mem prodM.view g io w [] k ho (0 : Fin 1) (Or.inl hk)
  exact h

/-- A chunk's products written: the products are written one chunk further. -/
theorem written_chunk (t : Nat) (h : t < 7) (g : BufOf (F := F) c prodM) (hg : WrittenTo c R B v0 hv t g)
    (o : Fin 1 → Nat) (io : ∀ x, o x + S131072.size x ≤ S1000000.size x) (ho : o = ![t * 131072]) :
    WrittenTo c R B v0 hv (t + 1) (prodM.view.writes (Elt F) g [⟨Rect.unit (s := S1000000) o S131072.size io, k0_pay2 (rowV c R v0 hv ⟨t, h⟩) (belV c B ⟨t, h⟩)⟩]) := by
  intro k hk
  by_cases hlo : (k (0 : Fin 1)).val < 131072 * t
  · exact (prod_miss c 131072 g o io _ (t * 131072) ho k (by omega)).trans (hg k hlo)
  · rw [prod_hit c 131072 g o io _ (t * 131072) ho k ⟨(k (0 : Fin 1)).val % 131072, by omega⟩ (by show (k (0 : Fin 1)).val = t * 131072 + (k (0 : Fin 1)).val % 131072; omega)]
    unfold prodAt
    rw [dif_pos (by omega)]
    have e : (⟨(k (0 : Fin 1)).val / 131072, by omega⟩ : Fin 7) = ⟨t, h⟩ := Fin.ext (by show (k (0 : Fin 1)).val / 131072 = t; omega)
    rw [e]

/-- The tail's products written: all are. -/
theorem written_tail (g : BufOf (F := F) c prodM) (hg : WrittenTo c R B v0 hv 7 g) (t : Nat) :
    WrittenTo c R B v0 hv t (prodM.view.writes (Elt F) g [⟨Rect.unit (s := S1000000) ![917504] S82496.size inb_S1000000_S82496_917504, k0_pay5 (rowTV c R v0 hv) (belTV c B)⟩]) := by
  intro k _
  have hk : (k (0 : Fin 1)).val < 1000000 := (k (0 : Fin 1)).isLt
  by_cases hlo : (k (0 : Fin 1)).val < 917504
  · exact (prod_miss c 82496 g _ inb_S1000000_S82496_917504 _ 917504 rfl k hlo).trans (hg k (by omega))
  · rw [prod_hit c 82496 g _ inb_S1000000_S82496_917504 _ 917504 rfl k ⟨(k (0 : Fin 1)).val - 917504, by omega⟩ (by show (k (0 : Fin 1)).val = 917504 + ((k (0 : Fin 1)).val - 917504); omega)]
    unfold prodAt
    rw [dif_neg hlo]

/-- Once all are written, they stay so. -/
theorem written_late (t t' : Nat) (h : 8 ≤ t) (g : BufOf (F := F) c prodM) (hg : WrittenTo c R B v0 hv t g) : WrittenTo c R B v0 hv t' g :=
  fun k _ => hg k (by have : (k (0 : Fin 1)).val < 1000000 := (k (0 : Fin 1)).isLt; omega)

/-! ## All that is held before a grid point -/

/-- The elements of the row and of the belief that no transfer reads. -/
def rowLeft : Finset (Idx (rowM.view.loc (c : Thread nD τ))) :=
  (Finset.univ \ Finset.univ.biUnion fun j => (rowJ v0.toNat hv j).view.set) \ (rowT v0.toNat hv).view.set
def belLeft : Finset (Idx (belM.view.loc (c : Thread nD τ))) :=
  (Finset.univ \ Finset.univ.biUnion fun j => (belJ j).view.set) \ belT.view.set

/-- What is held before grid point `t`. -/
def heldAt (t : Nat) : sProp 𝕄 :=
  iprop(heldTab c (fun _ => v0) ∗ chunks c R B v0 hv t ∗ tailAt c R B v0 hv t
    ∗ (rowM.view.loc (c : Thread nD τ) ↦[rowLeft c v0 hv]{fullShare} R) ∗ (belM.view.loc (c : Thread nD τ) ↦[belLeft c]{fullShare} B)
    ∗ (∃ g, ⌜WrittenTo c R B v0 hv t g⌝ ∗ heldAll c prodM g)
    ∗ (∃ f, ⌜1 ≤ t → f = fun _ => accAt c R B v0 hv t⌝ ∗ heldAll c accM f)
    ∗ (∃ r, prngReg c r))

end State

end Cert.KernelIdeal.Hand

end
-- ==== Proof.KernelIdeal.Steps.lean ====
/-
  Hand-written, untrusted. Each grid point takes what is held before it to what is held before the next: the first phase's
  points without touching the output's window, the second phase's storing a chunk of the result into it.
-/
module

public import proofs.«01_k».proof.Proof.KernelIdeal.State

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1)
open Idealize.ShloMosaic.Pipeline (Dat Cfg Window BodyObligation cellOf)

variable {F : FTy → Type} [FloatOps F]

local notation "𝕄" => MT nD τ sig Unit (Elt F) ℕ (Pipeline.UD sig nD τ) ℕ

/-! ## The schedule -/

theorem conds (t : Fin grid0.N) : (k0_cond1 (grid0.coords t) = 1#1 ↔ t.val < 8) ∧ (k0_cond2 (grid0.coords t) = 1#1 ↔ t.val % 8 = 0)
    ∧ (k0_cond3 (grid0.coords t) = 1#1 ↔ t.val % 8 < 7) ∧ (k0_cond4 (grid0.coords t) = 1#1 ↔ t.val % 8 = 7)
    ∧ (k0_cond5 (grid0.coords t) = 1#1 ↔ 8 ≤ t.val) ∧ (k0_cond6 (grid0.coords t) = 1#1 ↔ t.val % 8 < 7) ∧ (k0_cond7 (grid0.coords t) = 1#1 ↔ t.val % 8 = 7) := by
  revert t; decide +kernel
theorem offs (t : Fin grid0.N) : k0_off9 (grid0.coords t) = ![t.val % 8] ∧ k0_off11 (grid0.coords t) = ![t.val % 8 * 131072]
    ∧ k0_off12 (grid0.coords t) = ![t.val % 8 * 131072] ∧ k0_off14 (grid0.coords t) = ![t.val % 8 * 131072] := by
  revert t; decide +kernel

/-- A chunk's offsets may be spelled in any way: what is read there. -/
theorem row_read (c : Dev nD) (R : BufOf (F := F) c rowM) (o o' : Fin 2 → Nat) (h : o = o') (i : ∀ x, o x + S1x131072.size x ≤ S16x1000000.size x) (i' : ∀ x, o' x + S1x131072.size x ≤ S16x1000000.size x) :
    (rowO o i).view.read (Elt F) R = (rowO o' i').view.read (Elt F) R := by subst h; rfl
theorem bel_read (c : Dev nD) (B : BufOf (F := F) c belM) (o o' : Fin 1 → Nat) (h : o = o') (i : ∀ x, o x + S131072.size x ≤ S1000000.size x) (i' : ∀ x, o' x + S131072.size x ≤ S1000000.size x) :
    (belO o i).view.read (Elt F) B = (belO o' i').view.read (Elt F) B := by subst h; rfl

section Steps

variable (c : Dev nD) (R : BufOf (F := F) c rowM) (B : BufOf (F := F) c belM) (v0 : BitVec 32) (hv : v0.toNat < 16)
variable (mo : Memref sig .tc .vmem S131072 .f32) (ho : mo.IsWhole)

/-- The first point. -/
theorem step_first (t : Fin grid0.N) (ht : t.val = 0) (W : Waits sig Unit) (K : PUnit → sProp 𝕄) :
    iprop(heldAt c R B v0 hv t.val ∗ owes (c : Thread nD τ) 0 W ∗ (iprop(heldAt c R B v0 hv (t.val + 1) ∗ ∃ W, owes (c : Thread nD τ) 0 W) -∗ K ⟨⟩))
      ⊢ wp frame (wpE (defs₀ (F := F)) Variants.none (c : Thread nD τ) none) Set.univ (bodyAt (F := F) (grid0.coords t) mo ho) K := by
  obtain ⟨e1, e2, e3, e4, e5, -, -⟩ := conds t
  obtain ⟨o9, o11, o12, -⟩ := offs t
  have h1 := e1.mpr (by omega); have h2 := e2.mpr (by omega); have h3 := e3.mpr (by omega)
  have h4 := mt e4.mp (by omega); have h5 := mt e5.mp (by omega)
  have h9 : k0_off9 (grid0.coords t) = ![0] := by rw [o9, ht]
  have h11 : k0_off11 (grid0.coords t) = ![0] := by rw [o11, ht]
  have i11V : ∀ x, k0_off11 (grid0.coords t) x + S131072.size x ≤ S1000000.size x := by rw [h11]; exact inb_S1000000_S131072_0
  rw [ht]
  unfold heldAt
  rw [chunks_free c R B v0 hv 0 (Or.inl rfl), tailAt_free c R B v0 hv 0 (by omega), tailAt_infl c R B v0 hv (0 + 1) (by omega), chunks_list]
  iintro ⟨⟨Ht, ⟨C0, C1, C2, C3, C4, C5, C6⟩, T, HR, HB, ⟨%g, -, Hp⟩, ⟨%f, -, Ha⟩, Hr⟩, HO, HK⟩
  iapply (run_first c (grid0.coords t) h1 h2 h3 h4 h5 h9 h11 i11V mo ho v0 (chk_of_lt _ v0 hv) R B g f W K)
  isplitl [Ht]; · iexact Ht
  isplitl [C0]; · iapply (freeO_move c R B rfl rfl rfl (inbRow v0.toNat hv 0) (inbVec 0) (inbBuf 0) (inbSem 0) (k0_off1_inb _ v0 (chk_of_lt _ v0 hv) h1 h2) inb_S1000000_S131072_0 inb_S917504_S131072_0 inb_S7_S1_0); iexact C0
  isplitl [C1]; · iapply (freeO_move c R B rfl rfl rfl (inbRow v0.toNat hv 1) (inbVec 1) (inbBuf 1) (inbSem 1) (k0_off2_inb _ v0 (chk_of_lt _ v0 hv) h1 h2) inb_S1000000_S131072_131072 inb_S917504_S131072_131072 inb_S7_S1_1); iexact C1
  isplitl [C2]; · iapply (freeO_move c R B rfl rfl rfl (inbRow v0.toNat hv 2) (inbVec 2) (inbBuf 2) (inbSem 2) (k0_off3_inb _ v0 (chk_of_lt _ v0 hv) h1 h2) inb_S1000000_S131072_262144 inb_S917504_S131072_262144 inb_S7_S1_2); iexact C2
  isplitl [C3]; · iapply (freeO_move c R B rfl rfl rfl (inbRow v0.toNat hv 3) (inbVec 3) (inbBuf 3) (inbSem 3) (k0_off4_inb _ v0 (chk_of_lt _ v0 hv) h1 h2) inb_S1000000_S131072_393216 inb_S917504_S131072_393216 inb_S7_S1_3); iexact C3
  isplitl [C4]; · iapply (freeO_move c R B rfl rfl rfl (inbRow v0.toNat hv 4) (inbVec 4) (inbBuf 4) (inbSem 4) (k0_off5_inb _ v0 (chk_of_lt _ v0 hv) h1 h2) inb_S1000000_S131072_524288 inb_S917504_S131072_524288 inb_S7_S1_4); iexact C4
  isplitl [C5]; · iapply (freeO_move c R B rfl rfl rfl (inbRow v0.toNat hv 5) (inbVec 5) (inbBuf 5) (inbSem 5) (k0_off6_inb _ v0 (chk_of_lt _ v0 hv) h1 h2) inb_S1000000_S131072_655360 inb_S917504_S131072_655360 inb_S7_S1_5); iexact C5
  isplitl [C6]; · iapply (freeO_move c R B rfl rfl rfl (inbRow v0.toNat hv 6) (inbVec 6) (inbBuf 6) (inbSem 6) (k0_off7_inb _ v0 (chk_of_lt _ v0 hv) h1 h2) inb_S1000000_S131072_786432 inb_S917504_S131072_786432 inb_S7_S1_6); iexact C6
  isplitl [T]; · iexact T
  isplitl [Hp]; · iexact Hp
  isplitl [Ha]; · iexact Ha
  isplitl [HO]; · iexact HO
  have eR : (rowO (k0_off1 v0) (k0_off1_inb _ v0 (chk_of_lt _ v0 hv) h1 h2)).view.read (Elt F) R = rowV c R v0 hv ⟨0, by omega⟩ := by
    refine row_read c R _ _ ?_ _ (inbRow v0.toNat hv (0 : Fin 7))
    rfl
  have eB : (belO (k0_off11 (grid0.coords t)) i11V).view.read (Elt F) B = belV c B ⟨0, by omega⟩ := by
    refine bel_read c B _ _ ?_ _ (inbVec (0 : Fin 7))
    exact h11
  rw [eR, eB]
  iintro ⟨Ht, D0, D1, D2, D3, D4, D5, D6, T, Hp, Ha, HO⟩
  iapply HK
  isplitr [HO]
  · isplitl [Ht]; · iexact Ht
    isplitl [D0 D1 D2 D3 D4 D5 D6]
    · unfold chunks
      rw [chunks_list, chunkAt_free c R B v0 hv (0 + 1) 0 (by decide), chunkAt_infl c R B v0 hv (0 + 1) 1 (by decide), chunkAt_infl c R B v0 hv (0 + 1) 2 (by decide),
        chunkAt_infl c R B v0 hv (0 + 1) 3 (by decide), chunkAt_infl c R B v0 hv (0 + 1) 4 (by decide), chunkAt_infl c R B v0 hv (0 + 1) 5 (by decide), chunkAt_infl c R B v0 hv (0 + 1) 6 (by decide)]
      isplitl [D0]; · iapply (freeO_move c R B rfl h11 h9 (k0_off1_inb _ v0 (chk_of_lt _ v0 hv) h1 h2) i11V (k0_off11_inb _ h1 h3) (k0_off9_inb _ h1 h3) (inbRow v0.toNat hv 0) (inbVec 0) (inbBuf 0) (inbSem 0)); iexact D0
      isplitl [D1]; · iapply (inflO_move c R B rfl rfl rfl (k0_off2_inb _ v0 (chk_of_lt _ v0 hv) h1 h2) inb_S1000000_S131072_131072 inb_S917504_S131072_131072 inb_S7_S1_1 (inbRow v0.toNat hv 1) (inbVec 1) (inbBuf 1) (inbSem 1)); iexact D1
      isplitl [D2]; · iapply (inflO_move c R B rfl rfl rfl (k0_off3_inb _ v0 (chk_of_lt _ v0 hv) h1 h2) inb_S1000000_S131072_262144 inb_S917504_S131072_262144 inb_S7_S1_2 (inbRow v0.toNat hv 2) (inbVec 2) (inbBuf 2) (inbSem 2)); iexact D2
      isplitl [D3]; · iapply (inflO_move c R B rfl rfl rfl (k0_off4_inb _ v0 (chk_of_lt _ v0 hv) h1 h2) inb_S1000000_S131072_393216 inb_S917504_S131072_393216 inb_S7_S1_3 (inbRow v0.toNat hv 3) (inbVec 3) (inbBuf 3) (inbSem 3)); iexact D3
      isplitl [D4]; · iapply (inflO_move c R B rfl rfl rfl (k0_off5_inb _ v0 (chk_of_lt _ v0 hv) h1 h2) inb_S1000000_S131072_524288 inb_S917504_S131072_524288 inb_S7_S1_4 (inbRow v0.toNat hv 4) (inbVec 4) (inbBuf 4) (inbSem 4)); iexact D4
      isplitl [D5]; · iapply (inflO_move c R B rfl rfl rfl (k0_off6_inb _ v0 (chk_of_lt _ v0 hv) h1 h2) inb_S1000000_S131072_655360 inb_S917504_S131072_655360 inb_S7_S1_5 (inbRow v0.toNat hv 5) (inbVec 5) (inbBuf 5) (inbSem 5)); iexact D5
      iapply (inflO_move c R B rfl rfl rfl (k0_off7_inb _ v0 (chk_of_lt _ v0 hv) h1 h2) inb_S1000000_S131072_786432 inb_S917504_S131072_786432 inb_S7_S1_6 (inbRow v0.toNat hv 6) (inbVec 6) (inbBuf 6) (inbSem 6)); iexact D6
    isplitl [T]; · iexact T
    isplitl [HR]; · iexact HR
    isplitl [HB]; · iexact HB
    isplitl [Hp]
    · iexists _; isplitr [Hp]
      · ipureintro
        exact written_chunk c R B v0 hv 0 (by omega) g (fun k hk => absurd hk (by omega)) _ (k0_off12_inb _ h1 h3) (by rw [o12, ht])
      · iexact Hp
    isplitl [Ha]
    · iexists _; isplitr [Ha]
      · ipureintro
        exact fun _ => funext fun _ => (accAt_chunk c R B v0 hv 0 (by omega)).symm
      · iexact Ha
    iexact Hr
  · iexact HO

/-- A later point of the first phase, on a chunk. -/
theorem step_chunk (t : Fin grid0.N) (ht : 1 ≤ t.val) (ht' : t.val < 7) (W : Waits sig Unit) (K : PUnit → sProp 𝕄) :
    iprop(heldAt c R B v0 hv t.val ∗ owes (c : Thread nD τ) 0 W ∗ (iprop(heldAt c R B v0 hv (t.val + 1) ∗ ∃ W, owes (c : Thread nD τ) 0 W) -∗ K ⟨⟩))
      ⊢ wp frame (wpE (defs₀ (F := F)) Variants.none (c : Thread nD τ) none) Set.univ (bodyAt (F := F) (grid0.coords t) mo ho) K := by
  obtain ⟨e1, e2, e3, e4, e5, -, -⟩ := conds t
  obtain ⟨o9, o11, o12, -⟩ := offs t
  have hm : t.val % 8 = t.val := by omega
  rw [hm] at o9 o11 o12
  have h1 := e1.mpr (by omega); have h2 := mt e2.mp (by omega); have h3 := e3.mpr (by omega)
  have h4 := mt e4.mp (by omega); have h5 := mt e5.mp (by omega)
  unfold heldAt
  rw [chunks_at c R B v0 hv t.val ⟨t.val, ht'⟩ rfl ht, chunks_after c R B v0 hv t.val ⟨t.val, ht'⟩ rfl,
    tailAt_infl c R B v0 hv t.val (by omega), tailAt_infl c R B v0 hv (t.val + 1) (by omega)]
  iintro ⟨⟨Ht, ⟨⟨⟨%fd, HF⟩, ⟨%gd, HG⟩⟩, HC⟩, T, HR, HB, ⟨%g, %hg, Hp⟩, ⟨%f, %hf, Ha⟩, Hr⟩, HO, HK⟩
  obtain rfl := hf ht
  iapply (run_chunk c (grid0.coords t) h1 h2 h3 h4 h5 ![t.val] ![t.val * 131072] ![t.val * 131072] (inbSem ⟨t.val, ht'⟩) (inbBuf ⟨t.val, ht'⟩) (inbVec ⟨t.val, ht'⟩) o9 o11 o12 mo ho v0 (chk_of_lt _ v0 hv)
    (rowJ v0.toNat hv ⟨t.val, ht'⟩) (belJ ⟨t.val, ht'⟩) R fd B gd g (accAt c R B v0 hv t.val) W K)
  isplitl [Ht]; · iexact Ht
  isplitl [HF]; · iexact HF
  isplitl [HG]; · iexact HG
  isplitl [Hp]; · iexact Hp
  isplitl [Ha]; · iexact Ha
  isplitl [HO]; · iexact HO
  iintro ⟨Ht, D, E, Hp, Ha, HO⟩
  iapply HK
  isplitr [HO]
  · isplitl [Ht]; · iexact Ht
    isplitl [D E HC]
    · isplitl [D E]
      · isplitl [D]; · iexact D
        iexact E
      · iexact HC
    isplitl [T]; · iexact T
    isplitl [HR]; · iexact HR
    isplitl [HB]; · iexact HB
    isplitl [Hp]
    · iexists _; isplitr [Hp]
      · ipureintro
        exact written_chunk c R B v0 hv t.val ht' g hg _ (inbVec ⟨t.val, ht'⟩) rfl
      · iexact Hp
    isplitl [Ha]
    · iexists _; isplitr [Ha]
      · ipureintro
        exact fun _ => funext fun _ => (accAt_chunk c R B v0 hv t.val ht').symm
      · iexact Ha
    iexact Hr
  · iexact HO

/-- The first phase's last point, on the tail. -/
theorem step_tail (t : Fin grid0.N) (ht : t.val = 7) (W : Waits sig Unit) (K : PUnit → sProp 𝕄) :
    iprop(heldAt c R B v0 hv t.val ∗ owes (c : Thread nD τ) 0 W ∗ (iprop(heldAt c R B v0 hv (t.val + 1) ∗ ∃ W, owes (c : Thread nD τ) 0 W) -∗ K ⟨⟩))
      ⊢ wp frame (wpE (defs₀ (F := F)) Variants.none (c : Thread nD τ) none) Set.univ (bodyAt (F := F) (grid0.coords t) mo ho) K := by
  obtain ⟨e1, e2, e3, e4, e5, -, -⟩ := conds t
  have h1 := e1.mpr (by omega); have h2 := mt e2.mp (by omega); have h3 := mt e3.mp (by omega)
  have h4 := e4.mpr (by omega); have h5 := mt e5.mp (by omega)
  rw [ht]
  unfold heldAt
  rw [chunks_free c R B v0 hv 7 (Or.inr (le_refl 7)), chunks_free c R B v0 hv (7 + 1) (Or.inr (by omega)),
    tailAt_infl c R B v0 hv 7 (by omega), tailAt_free c R B v0 hv (7 + 1) (by omega)]
  iintro ⟨⟨Ht, HC, ⟨⟨%fd, HF⟩, ⟨%gd, HG⟩⟩, HR, HB, ⟨%g, %hg, Hp⟩, ⟨%f, %hf, Ha⟩, Hr⟩, HO, HK⟩
  obtain rfl := hf (by omega)
  iapply (run_tail c (grid0.coords t) h1 h2 h3 h4 h5 mo ho v0 (chk_of_lt _ v0 hv)
    (rowT v0.toNat hv) belT R fd B gd g (accAt c R B v0 hv 7) W K)
  isplitl [Ht]; · iexact Ht
  isplitl [HF]; · iexact HF
  isplitl [HG]; · iexact HG
  isplitl [Hp]; · iexact Hp
  isplitl [Ha]; · iexact Ha
  isplitl [HO]; · iexact HO
  iintro ⟨Ht, D, E, Hp, Ha, HO⟩
  iapply HK
  isplitr [HO]
  · isplitl [Ht]; · iexact Ht
    isplitl [HC]; · iexact HC
    isplitl [D E]
    · isplitl [D]; · iexact D
      iexact E
    isplitl [HR]; · iexact HR
    isplitl [HB]; · iexact HB
    isplitl [Hp]
    · iexists _; isplitr [Hp]
      · ipureintro
        exact written_tail c R B v0 hv g hg (7 + 1)
      · iexact Hp
    isplitl [Ha]
    · iexists _; isplitr [Ha]
      · ipureintro
        exact fun _ => funext fun _ => (accAt_tail c R B v0 hv).symm
      · iexact Ha
    iexact Hr
  · iexact HO

/-- What is held no longer changes in the second phase. -/
theorem held_late (t : Nat) (h : 8 ≤ t) : heldAt c R B v0 hv (t + 1) = heldAt c R B v0 hv t := by
  unfold heldAt
  rw [chunks_free c R B v0 hv t (Or.inr (by omega)), chunks_free c R B v0 hv (t + 1) (Or.inr (by omega)), tailAt_free c R B v0 hv t (by omega), tailAt_free c R B v0 hv (t + 1) (by omega),
    accAt_late c R B v0 hv t h]
  have hw : WrittenTo c R B v0 hv (t + 1) = WrittenTo c R B v0 hv t :=
    funext fun g => propext ⟨written_late c R B v0 hv (t + 1) t (by omega) g, written_late c R B v0 hv t (t + 1) h g⟩
  have hl : (1 ≤ t + 1) = (1 ≤ t) := propext ⟨fun _ => by omega, fun _ => by omega⟩
  rw [hw, hl]

end Steps

end Cert.KernelIdeal.Hand

end
-- ==== Proof.KernelIdeal.Out.lean ====
/-
  Hand-written, untrusted. The second phase: each grid point scales its block of the products by the reciprocal of the sum.
-/
module

public import proofs.«01_k».proof.Proof.KernelIdeal.Steps

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1)
open Idealize.ShloMosaic.Pipeline (Dat Cfg Window BodyObligation cellOf)

variable {F : FTy → Type} [FloatOps F]

local notation "𝕄" => MT nD τ sig Unit (Elt F) ℕ (Pipeline.UD sig nD τ) ℕ

/-- Consecutive products, read. -/
theorem readAt_prod (n : Nat) (c : Dev nD) (g : BufOf (F := F) c prodM) (o : Fin 1 → Nat) (io : ∀ x, o x + (⟨1, ![n]⟩ : Shape).size x ≤ S1000000.size x)
    (b : Nat) (ho : o = ![b]) (q : Fin n) (hq : b + q.val < 1000000) :
    View.readAt (Elt F) prodM.view (Rect.unit (s := S1000000) o (⟨1, ![n]⟩ : Shape).size io).toLoadRect g (ix1 q) = g (ix1 ⟨b + q.val, hq⟩) := by
  subst ho
  show g _ = g _
  refine congrArg g (funext fun x => ?_)
  obtain rfl : x = (0 : Fin 1) := Subsingleton.elim (α := Fin 1) _ _
  exact Fin.ext (by show b + 1 * q.val = b + q.val; omega)

/-- A write from the start of a whole buffer, read inside what it covers. -/
theorem out_hit (n : Nat) (c : Dev nD) (mo : Memref sig .tc .vmem S131072 .f32) (f : BufOf (F := F) c mo)
    (io : ∀ x, (![0] : Fin 1 → Nat) x + (⟨1, ![n]⟩ : Shape).size x ≤ S131072.size x)
    (w : (⟨1, ![n]⟩ : Shape).Idx → Elt F .f32) (k : S131072.Idx) (q : Fin n) (hk : (k (0 : Fin 1)).val = q.val) :
    mo.view.read (Elt F) (mo.view.writes (Elt F) f [⟨Rect.unit (s := S131072) ![0] (⟨1, ![n]⟩ : Shape).size io, w⟩]) k = w (ix1 q) := by
  have h := View.read_writes_cons_unit_of_mem mo.view f io w [] k (ix1 q) rfl (by
    intro x
    obtain rfl : x = (0 : Fin 1) := Subsingleton.elim (α := Fin 1) _ _
    exact hk.trans (Nat.zero_add _).symm)
  exact h

section Out

variable (c : Dev nD) (R : BufOf (F := F) c rowM) (B : BufOf (F := F) c belM) (v0 : BitVec 32) (hv : v0.toNat < 16)
variable (mo : Memref sig .tc .vmem S131072 .f32) (ho : mo.IsWhole)

/-- The result at element `k`: its product scaled by the reciprocal of the sum. -/
def outAt (k : S1000000.Idx) : Elt F .f32 := k0_pay8 (accAt c R B v0 hv 8) (fun _ => prodAt c R B v0 hv k) (ix1 ⟨0, by decide⟩)

/-- The result's block at grid point `t`, anything past the array's end. -/
def blockAt (t : Nat) : FVec F S131072 .f32 := fun y =>
  if h : t % 8 * 131072 + (y (0 : Fin 1)).val < 1000000 then outAt c R B v0 hv (ix1 ⟨t % 8 * 131072 + (y (0 : Fin 1)).val, h⟩) else Scalar.ofBits .f32 0x00000000#32

theorem blockAt_in (t : Nat) (y : S131072.Idx) (h : t % 8 * 131072 + (y (0 : Fin 1)).val < 1000000) :
    blockAt c R B v0 hv t y = outAt c R B v0 hv (ix1 ⟨t % 8 * 131072 + (y (0 : Fin 1)).val, h⟩) := dif_pos h

/-- Once all the products are written, the sum stays. -/
theorem accAt_done (t : Nat) (h : 8 ≤ t) : accAt c R B v0 hv t = accAt c R B v0 hv 8 := by
  induction t, h using Nat.le_induction with
  | base => rfl
  | succ n hn ih => rw [accAt_late c R B v0 hv n hn, ih]

theorem pay8_at (x : Elt F .f32) (v : Vec F S131072 .f32) (p : Elt F .f32) (y y' : S131072.Idx) (h : v y = p) : k0_pay8 x v y = k0_pay8 x (fun _ => p) y' := by
  subst h; rfl
theorem pay9_at (x : Elt F .f32) (v : Vec F S82496 .f32) (p : Elt F .f32) (y : S82496.Idx) (y' : S131072.Idx) (h : v y = p) : k0_pay9 x v y = k0_pay8 x (fun _ => p) y' := by
  subst h; rfl

/-- A point of the second phase but the last, on a chunk. -/
theorem step_out (t : Fin grid0.N) (ht : 8 ≤ t.val) (ht' : t.val % 8 < 7) (fo : BufOf (F := F) c mo) (K : PUnit → sProp 𝕄) :
    iprop(heldAt c R B v0 hv t.val ∗ heldAll c mo fo ∗ ((heldAt c R B v0 hv (t.val + 1)
        ∗ (∃ f, ⌜∀ y : S131072.Idx, t.val % 8 * 131072 + (y (0 : Fin 1)).val < 1000000 → mo.view.read (Elt F) f y = blockAt c R B v0 hv t.val y⌝ ∗ heldAll c mo f)) -∗ K ⟨⟩))
      ⊢ wp frame (wpE (defs₀ (F := F)) Variants.none (c : Thread nD τ) none) Set.univ (bodyAt (F := F) (grid0.coords t) mo ho) K := by
  obtain ⟨e1, -, -, -, e5, e6, e7⟩ := conds t
  obtain ⟨-, -, -, o14⟩ := offs t
  have h1 := mt e1.mp (by omega); have h5 := e5.mpr ht; have h6 := e6.mpr ht'; have h7 := mt e7.mp (by omega)
  rw [held_late c R B v0 hv t.val ht]
  unfold heldAt
  iintro ⟨⟨Ht, HC, T, HR, HB, ⟨%g, %hg, Hp⟩, ⟨%f, %hf, Ha⟩, Hr⟩, Hm, HK⟩
  obtain rfl := hf (by omega)
  iapply (run_out c (grid0.coords t) h1 h5 h6 h7 mo ho v0 (chk_of_lt _ v0 hv) g (accAt c R B v0 hv t.val) fo K)
  isplitl [Ht]; · iexact Ht
  isplitl [Hp]; · iexact Hp
  isplitl [Ha]; · iexact Ha
  isplitl [Hm]; · iexact Hm
  iintro ⟨Ht, Hp, Ha, Hm⟩
  iapply HK
  isplitr [Hm]
  · isplitl [Ht]; · iexact Ht
    isplitl [HC]; · iexact HC
    isplitl [T]; · iexact T
    isplitl [HR]; · iexact HR
    isplitl [HB]; · iexact HB
    isplitl [Hp]
    · iexists _; isplitr [Hp]
      · ipureintro; exact hg
      · iexact Hp
    isplitl [Ha]
    · iexists _; isplitr [Ha]
      · ipureintro; exact fun _ => rfl
      · iexact Ha
    iexact Hr
  · iexists _; isplitr [Hm]
    swap; · iexact Hm
    · ipureintro
      intro y hy
      have hylt : (y (0 : Fin 1)).val < 131072 := (y (0 : Fin 1)).isLt
      refine (out_hit 131072 c mo fo inb_S131072_S131072_0 _ y ⟨_, hylt⟩ rfl).trans ?_
      rw [blockAt_in c R B v0 hv t.val y hy, accAt_done c R B v0 hv t.val ht]
      unfold outAt
      refine pay8_at _ _ _ _ _ ((readAt_prod 131072 c g _ _ (t.val % 8 * 131072) o14 ⟨_, hylt⟩ hy).trans (hg _ ?_))
      show t.val % 8 * 131072 + (y (0 : Fin 1)).val < 131072 * t.val
      omega

/-- The last point, on the tail. -/
theorem step_out_tail (t : Fin grid0.N) (ht : t.val = 15) (fo : BufOf (F := F) c mo) (K : PUnit → sProp 𝕄) :
    iprop(heldAt c R B v0 hv t.val ∗ heldAll c mo fo ∗ ((heldAt c R B v0 hv (t.val + 1)
        ∗ (∃ f, ⌜∀ y : S131072.Idx, t.val % 8 * 131072 + (y (0 : Fin 1)).val < 1000000 → mo.view.read (Elt F) f y = blockAt c R B v0 hv t.val y⌝ ∗ heldAll c mo f)) -∗ K ⟨⟩))
      ⊢ wp frame (wpE (defs₀ (F := F)) Variants.none (c : Thread nD τ) none) Set.univ (bodyAt (F := F) (grid0.coords t) mo ho) K := by
  obtain ⟨e1, -, -, -, e5, e6, e7⟩ := conds t
  have h1 := mt e1.mp (by omega); have h5 := e5.mpr (by omega); have h6 := mt e6.mp (by omega); have h7 := e7.mpr (by omega)
  rw [held_late c R B v0 hv t.val (by omega)]
  unfold heldAt
  iintro ⟨⟨Ht, HC, T, HR, HB, ⟨%g, %hg, Hp⟩, ⟨%f, %hf, Ha⟩, Hr⟩, Hm, HK⟩
  obtain rfl := hf (by omega)
  iapply (run_out_tail c (grid0.coords t) h1 h5 h6 h7 mo ho v0 (chk_of_lt _ v0 hv) g (accAt c R B v0 hv t.val) fo K)
  isplitl [Ht]; · iexact Ht
  isplitl [Hp]; · iexact Hp
  isplitl [Ha]; · iexact Ha
  isplitl [Hm]; · iexact Hm
  iintro ⟨Ht, Hp, Ha, Hm⟩
  iapply HK
  isplitr [Hm]
  · isplitl [Ht]; · iexact Ht
    isplitl [HC]; · iexact HC
    isplitl [T]; · iexact T
    isplitl [HR]; · iexact HR
    isplitl [HB]; · iexact HB
    isplitl [Hp]
    · iexists _; isplitr [Hp]
      · ipureintro; exact hg
      · iexact Hp
    isplitl [Ha]
    · iexists _; isplitr [Ha]
      · ipureintro; exact fun _ => rfl
      · iexact Ha
    iexact Hr
  · iexists _; isplitr [Hm]
    swap; · iexact Hm
    · ipureintro
      intro y hy
      have h8 : t.val % 8 * 131072 = 917504 := by rw [ht]
      have hylt : (y (0 : Fin 1)).val < 82496 := by omega
      refine (out_hit 82496 c mo fo inb_S131072_S82496_0 _ y ⟨_, hylt⟩ rfl).trans ?_
      rw [blockAt_in c R B v0 hv t.val y hy, accAt_done c R B v0 hv t.val (by omega)]
      unfold outAt
      refine pay9_at _ _ _ _ _ ((readAt_prod 82496 c g _ _ (t.val % 8 * 131072) (by rw [h8]) ⟨_, hylt⟩ hy).trans (hg _ ?_))
      show t.val % 8 * 131072 + (y (0 : Fin 1)).val < 131072 * t.val
      omega

/-- Any point of the second phase. -/
theorem step_late (t : Fin grid0.N) (ht : 8 ≤ t.val) (fo : BufOf (F := F) c mo) (K : PUnit → sProp 𝕄) :
    iprop(heldAt c R B v0 hv t.val ∗ heldAll c mo fo ∗ ((heldAt c R B v0 hv (t.val + 1)
        ∗ (∃ f, ⌜∀ y : S131072.Idx, t.val % 8 * 131072 + (y (0 : Fin 1)).val < 1000000 → mo.view.read (Elt F) f y = blockAt c R B v0 hv t.val y⌝ ∗ heldAll c mo f)) -∗ K ⟨⟩))
      ⊢ wp frame (wpE (defs₀ (F := F)) Variants.none (c : Thread nD τ) none) Set.univ (bodyAt (F := F) (grid0.coords t) mo ho) K := by
  have hN : t.val < 16 := t.isLt
  by_cases h : t.val % 8 < 7
  · exact step_out c R B v0 hv mo ho t ht h fo K
  · exact step_out_tail c R B v0 hv mo ho t (by omega) fo K

/-- Any point of the first phase. -/
theorem step_early (t : Fin grid0.N) (ht : t.val < 8) (W : Waits sig Unit) (K : PUnit → sProp 𝕄) :
    iprop(heldAt c R B v0 hv t.val ∗ owes (c : Thread nD τ) 0 W ∗ (iprop(heldAt c R B v0 hv (t.val + 1) ∗ ∃ W, owes (c : Thread nD τ) 0 W) -∗ K ⟨⟩))
      ⊢ wp frame (wpE (defs₀ (F := F)) Variants.none (c : Thread nD τ) none) Set.univ (bodyAt (F := F) (grid0.coords t) mo ho) K := by
  by_cases h0 : t.val = 0
  · exact step_first c R B v0 hv mo ho t h0 W K
  by_cases h7 : t.val = 7
  · exact step_tail c R B v0 hv mo ho t h7 W K
  · exact step_chunk c R B v0 hv mo ho t (by omega) (by omega) W K

end Out

end Cert.KernelIdeal.Hand

end
-- ==== Proof.KernelIdeal.Entry.lean ====
/-
  Hand-written, untrusted. What the launch hands the kernel, taken apart into the pieces held between grid points, and
  the pieces put back together at the end.
-/
module

public import proofs.«01_k».proof.Proof.KernelIdeal.Out

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1)
open Idealize.ShloMosaic.Pipeline (Dat Cfg Window BodyObligation cellOf)

variable {F : FTy → Type} [FloatOps F]

local notation "𝕄" => MT nD τ sig Unit (Elt F) ℕ (Pipeline.UD sig nD τ) ℕ

/-- A buffer held whole is held as pairwise disjoint pieces, one more piece apart from them, and what is left. -/
theorem pieces_split {ℓ : Loc nD τ sig} {n : Nat} (I : Fin n → Finset (Idx ℓ)) (hd : ∀ b b', b ≠ b' → Disjoint (I b) (I b')) (T : Finset (Idx ℓ))
    (hT : ∀ b, Disjoint T (I b)) (f : Buf (Elt F) ℓ) :
    (ℓ ↦{fullShare} f : sProp 𝕄) ⊣⊢ iprop(bigSep Finset.univ (fun b => ℓ ↦[I b]{fullShare} f) ∗ (ℓ ↦[T]{fullShare} f)
      ∗ (ℓ ↦[(Finset.univ \ Finset.univ.biUnion I) \ T]{fullShare} f)) := by
  have hT' : T ⊆ Finset.univ \ Finset.univ.biUnion I := fun x hx => Finset.mem_sdiff.mpr ⟨Finset.mem_univ _, fun hx' => by
    obtain ⟨b, -, hb⟩ := Finset.mem_biUnion.mp hx'
    exact Finset.disjoint_left.mp (hT b) hx hb⟩
  have h1 : (ℓ ↦[Finset.univ]{fullShare} f : sProp 𝕄) ⊣⊢ _ := pointsTo_split_subset (Finset.subset_univ (Finset.univ.biUnion I))
  have h2 : (ℓ ↦[Finset.univ \ Finset.univ.biUnion I]{fullShare} f : sProp 𝕄) ⊣⊢ _ := pointsTo_split_subset hT'
  rw [pointsTo_biUnion Finset.univ I (fun b _ b' _ h => hd b b' h)] at h1
  constructor
  · iintro H
    ihave H2 := h1.1 $$ H
    icases H2 with ⟨HA, HB⟩
    isplitl [HA]; · iexact HA
    iapply h2.1; iexact HB
  · iintro ⟨HA, HB⟩
    iapply h1.2
    isplitl [HA]; · iexact HA
    iapply h2.2; iexact HB

theorem row_set (a : Nat) (h : a < 16) (j : Fin 7) : (rowJ a h j).view.set = (Rect.unit (s := S16x1000000) ![a, j.val * 131072] S1x131072.size (inbRow a h j)).set :=
  (View.set_reshape _ _).trans (View.set_slice_whole _ _)
theorem rowT_set (a : Nat) (h : a < 16) : (rowT a h).view.set = (Rect.unit (s := S16x1000000) ![a, 917504] S1x82496.size (inbRowT a h)).set :=
  (View.set_reshape _ _).trans (View.set_slice_whole _ _)

theorem row_disjoint (a : Nat) (h : a < 16) (j j' : Fin 7) (hj : j ≠ j') : Disjoint (rowJ a h j).view.set (rowJ a h j').view.set := by
  rw [row_set, row_set]
  exact Ring.lead_disjoint (s := S16x1000000) (1 : Fin 2) 131072 (fun j : Fin 7 => ![a, j.val * 131072]) S1x131072.size (inbRow a h)
    (fun b => by show b.val * 131072 = 131072 * b.val; omega) rfl j j' hj
theorem rowT_disjoint (a : Nat) (h : a < 16) (j : Fin 7) : Disjoint (rowT a h).view.set (rowJ a h j).view.set := by
  rw [row_set, rowT_set, Finset.disjoint_left]
  intro i hi hi'
  have h1 : 917504 ≤ (i (1 : Fin 2)).val := ((Rect.mem_set_unit.mp hi) (1 : Fin 2)).1
  have h2 : (i (1 : Fin 2)).val < j.val * 131072 + 131072 := ((Rect.mem_set_unit.mp hi') (1 : Fin 2)).2
  have := j.isLt
  omega

theorem bel_set (j : Fin 7) : (belJ j).view.set = (Rect.unit (s := S1000000) ![j.val * 131072] S131072.size (inbVec j)).set := View.set_slice_whole _ _
theorem belT_set : (belT).view.set = (Rect.unit (s := S1000000) ![917504] S82496.size inb_S1000000_S82496_917504).set := View.set_slice_whole _ _

theorem bel_disjoint (j j' : Fin 7) (hj : j ≠ j') : Disjoint (belJ j).view.set (belJ j').view.set := by
  rw [bel_set, bel_set]
  exact Ring.lead_disjoint (s := S1000000) (0 : Fin 1) 131072 (fun j : Fin 7 => ![j.val * 131072]) S131072.size inbVec
    (fun b => by show b.val * 131072 = 131072 * b.val; omega) rfl j j' hj
theorem belT_disjoint (j : Fin 7) : Disjoint (belT).view.set (belJ j).view.set := by
  rw [bel_set, belT_set, Finset.disjoint_left]
  intro i hi hi'
  have h1 : 917504 ≤ (i (0 : Fin 1)).val := ((Rect.mem_set_unit.mp hi) (0 : Fin 1)).1
  have h2 : (i (0 : Fin 1)).val < j.val * 131072 + 131072 := ((Rect.mem_set_unit.mp hi') (0 : Fin 1)).2
  have := j.isLt
  omega

/-- The two landing buffers are covered by their seven chunks. -/
theorem land_disjoint (j j' : Fin 7) (hj : j ≠ j') : Disjoint (Rect.unit (s := S917504) ![j.val * 131072] S131072.size (inbBuf j)).set (Rect.unit (s := S917504) ![j'.val * 131072] S131072.size (inbBuf j')).set :=
  Ring.lead_disjoint (s := S917504) (0 : Fin 1) 131072 (fun j : Fin 7 => ![j.val * 131072]) S131072.size inbBuf
    (fun b => by show b.val * 131072 = 131072 * b.val; omega) rfl j j' hj
theorem land_cover : Finset.univ.biUnion (fun j : Fin 7 => (Rect.unit (s := S917504) ![j.val * 131072] S131072.size (inbBuf j)).set) = Finset.univ :=
  Ring.lead_cover (s := S917504) (0 : Fin 1) 131072 (fun j : Fin 7 => ![j.val * 131072]) S131072.size inbBuf
    (fun b => by show b.val * 131072 = 131072 * b.val; omega) (fun b x hx => absurd (Subsingleton.elim (α := Fin 1) x 0) hx) rfl
    (fun x hx => absurd (Subsingleton.elim (α := Fin 1) x 0) hx) rfl

theorem col_set (j : Fin 7) : (colJ j).view.set = (Rect.unit (s := S917504) ![j.val * 131072] S131072.size (inbBuf j)).set := View.set_slice_whole _ _
theorem buf_set (j : Fin 7) : (bufJ j).view.set = (Rect.unit (s := S917504) ![j.val * 131072] S131072.size (inbBuf j)).set := View.set_slice_whole _ _
theorem col_disjoint (j j' : Fin 7) (hj : j ≠ j') : Disjoint (colJ j).view.set (colJ j').view.set := by
  rw [col_set, col_set]; exact land_disjoint j j' hj
theorem buf_disjoint (j j' : Fin 7) (hj : j ≠ j') : Disjoint (bufJ j).view.set (bufJ j').view.set := by
  rw [buf_set, buf_set]; exact land_disjoint j j' hj
theorem col_cover : (Finset.univ : Finset (Fin 7)).biUnion (β := S917504.Idx) (fun j : Fin 7 => (colJ j).view.set) = Finset.univ :=
  (congrArg (Finset.univ.biUnion) (funext col_set)).trans land_cover
theorem buf_cover : (Finset.univ : Finset (Fin 7)).biUnion (β := S917504.Idx) (fun j : Fin 7 => (bufJ j).view.set) = Finset.univ :=
  (congrArg (Finset.univ.biUnion) (funext buf_set)).trans land_cover

/-- The landing buffers' chunks held at given contents are held at some; -/
theorem col_some (c : Dev nD) (f : BufOf (F := F) c colM) : (bigSep Finset.univ (fun j : Fin 7 => heldOwn c (colJ j) f) : sProp 𝕄) ⊢ bigSep Finset.univ (fun j : Fin 7 => iprop(∃ f, heldOwn c (colJ j) f)) := by
  have h : ∀ j : Fin 7, (heldOwn c (colJ j) f : sProp 𝕄) ⊢ iprop(∃ f, heldOwn c (colJ j) f) := fun j => by
    iintro H; iexists f; iexact H
  exact bigSep_mono fun j _ => h j
theorem col_split (c : Dev nD) : iprop(∃ f, heldAll (F := F) c colM f) ⊣⊢ (bigSep Finset.univ (fun j : Fin 7 => iprop(∃ f, heldOwn c (colJ j) f)) : sProp 𝕄) := by
  constructor
  · iintro ⟨%f, H⟩
    iapply (col_some c f)
    iapply (BIBase.Entails.of_eq (Ring.pointsTo_blocks (ℓ := colM.view.loc (c : Thread nD τ)) (fun j : Fin 7 => (colJ j).view.set) col_disjoint col_cover f))
    iexact H
  · exact Ring.pointsTo_blocks_join_exists (ℓ := colM.view.loc (c : Thread nD τ)) (fun j : Fin 7 => (colJ j).view.set) col_disjoint col_cover (View.junk colM.view)
theorem buf_some (c : Dev nD) (f : BufOf (F := F) c bufM) : (bigSep Finset.univ (fun j : Fin 7 => heldOwn c (bufJ j) f) : sProp 𝕄) ⊢ bigSep Finset.univ (fun j : Fin 7 => iprop(∃ f, heldOwn c (bufJ j) f)) := by
  have h : ∀ j : Fin 7, (heldOwn c (bufJ j) f : sProp 𝕄) ⊢ iprop(∃ f, heldOwn c (bufJ j) f) := fun j => by
    iintro H; iexists f; iexact H
  exact bigSep_mono fun j _ => h j
theorem buf_split (c : Dev nD) : iprop(∃ f, heldAll (F := F) c bufM f) ⊣⊢ (bigSep Finset.univ (fun j : Fin 7 => iprop(∃ f, heldOwn c (bufJ j) f)) : sProp 𝕄) := by
  constructor
  · iintro ⟨%f, H⟩
    iapply (buf_some c f)
    iapply (BIBase.Entails.of_eq (Ring.pointsTo_blocks (ℓ := bufM.view.loc (c : Thread nD τ)) (fun j : Fin 7 => (bufJ j).view.set) buf_disjoint buf_cover f))
    iexact H
  · exact Ring.pointsTo_blocks_join_exists (ℓ := bufM.view.loc (c : Thread nD τ)) (fun j : Fin 7 => (bufJ j).view.set) buf_disjoint buf_cover (View.junk bufM.view)

/-- The kernel's own cells: the row's and the belief's chunks', and the two tails'. -/
abbrev cell : (Fin 7 ⊕ Fin 7) ⊕ Fin 2 → SemLoc sig := fun k =>
  match k with
  | .inl (.inl j) => SemLoc.dma (semC j)
  | .inl (.inr j) => SemLoc.dma (semB j)
  | .inr 0 => SemLoc.dma semT0
  | .inr 1 => SemLoc.dma semT1
theorem cell_facts : Pipeline.OwnSemFacts spec0 cell := by decide +kernel

theorem cells_eq (c : Dev nD) : (Pipeline.ownSems0 (Ix := Unit) (Name := ℕ) (U := Pipeline.UD sig nD τ) (Lvl := ℕ) (Val := Elt F) (τ := τ) cell c : sProp 𝕄)
    = iprop((bigSep Finset.univ (fun j : Fin 7 => semVal ((c : Thread nD τ), SemLoc.dma (semC j)) 0) ∗ bigSep Finset.univ (fun j : Fin 7 => semVal ((c : Thread nD τ), SemLoc.dma (semB j)) 0))
        ∗ semVal ((c : Thread nD τ), SemLoc.dma semT0) 0 ∗ semVal ((c : Thread nD τ), SemLoc.dma semT1) 0) := by
  unfold Pipeline.ownSems0
  rw [bigSep_univ_sum, bigSep_univ_sum, bigSep_univ_eq_bigSepL (I := Fin 2) [0, 1] (by decide) (by decide)]
  rfl

section Parts

variable (c : Dev nD) (R : BufOf (F := F) c rowM) (B : BufOf (F := F) c belM) (v0 : BitVec 32) (hv : v0.toNat < 16)

/-- The chunks at rest, kind by kind. -/
theorem chunks_parts : bigSep Finset.univ (freeJ c R B v0 hv)
    = iprop((bigSep Finset.univ (fun j : Fin 7 => semVal ((c : Thread nD τ), SemLoc.dma (semC j)) 0)
          ∗ bigSep Finset.univ (fun j : Fin 7 => iprop(∃ f, heldOwn c (colJ j) f)) ∗ bigSep Finset.univ (fun j : Fin 7 => heldOwn c (rowJ v0.toNat hv j) R))
        ∗ (bigSep Finset.univ (fun j : Fin 7 => semVal ((c : Thread nD τ), SemLoc.dma (semB j)) 0)
          ∗ bigSep Finset.univ (fun j : Fin 7 => iprop(∃ f, heldOwn c (bufJ j) f)) ∗ bigSep Finset.univ (fun j : Fin 7 => heldOwn c (belJ j) B))) := by
  refine (bigSep_sep _ _ _).trans ?_
  refine congrArg₂ BIBase.sep ((bigSep_sep _ _ _).trans ?_) ((bigSep_sep _ _ _).trans ?_)
  · exact congrArg (BIBase.sep _) (bigSep_sep _ _ _)
  · exact congrArg (BIBase.sep _) (bigSep_sep _ _ _)

theorem row_split : heldAll c rowM R ⊣⊢ iprop(bigSep Finset.univ (fun j : Fin 7 => heldOwn c (rowJ v0.toNat hv j) R) ∗ heldOwn c (rowT v0.toNat hv) R
    ∗ (rowM.view.loc (c : Thread nD τ) ↦[rowLeft c v0 hv]{fullShare} R)) := by
  unfold rowLeft
  exact pieces_split (ℓ := rowM.view.loc (c : Thread nD τ)) (fun j : Fin 7 => (rowJ v0.toNat hv j).view.set) (row_disjoint v0.toNat hv) (rowT v0.toNat hv).view.set (rowT_disjoint v0.toNat hv) R
theorem bel_split : heldAll c belM B ⊣⊢ iprop(bigSep Finset.univ (fun j : Fin 7 => heldOwn c (belJ j) B) ∗ heldOwn c belT B
    ∗ (belM.view.loc (c : Thread nD τ) ↦[belLeft c]{fullShare} B)) := by
  unfold belLeft
  exact pieces_split (ℓ := belM.view.loc (c : Thread nD τ)) (fun j : Fin 7 => (belJ j).view.set) bel_disjoint belT.view.set belT_disjoint B

theorem tail_whole (f : BufOf (F := F) c colT) : heldAll c colT f = heldOwn c colT f := by
  unfold heldOwn; rw [Memref.IsWhole.set_eq_univ (m := colT) (Memref.isWhole_whole _)]
theorem tail_whole' (f : BufOf (F := F) c bufT) : heldAll c bufT f = heldOwn c bufT f := by
  unfold heldOwn; rw [Memref.IsWhole.set_eq_univ (m := bufT) (Memref.isWhole_whole _)]

/-- The kernel's scratch buffers, its generator register, its cells, the row table and the belief, as the launch hands them over. -/
def handed : sProp 𝕄 :=
  iprop(((∃ f, heldAll c colM f) ∗ (∃ f, heldAll c colT f) ∗ (∃ f, heldAll c bufM f) ∗ (∃ f, heldAll c bufT f) ∗ (∃ f, heldAll c prodM f) ∗ (∃ f, heldAll c accM f))
    ∗ (∃ r, prngReg c r)
    ∗ ((bigSep Finset.univ (fun j : Fin 7 => semVal ((c : Thread nD τ), SemLoc.dma (semC j)) 0) ∗ bigSep Finset.univ (fun j : Fin 7 => semVal ((c : Thread nD τ), SemLoc.dma (semB j)) 0))
        ∗ semVal ((c : Thread nD τ), SemLoc.dma semT0) 0 ∗ semVal ((c : Thread nD τ), SemLoc.dma semT1) 0)
    ∗ heldAll c belM B ∗ heldAll c rowM R)

/-- What is handed over is what is held before the first point; -/
theorem handed_in : iprop(handed c R B ∗ heldTab c (fun _ => v0)) ⊢ heldAt c R B v0 hv 0 := by
  unfold handed heldAt
  rw [chunks_free c R B v0 hv 0 (Or.inl rfl), chunks_parts, tailAt_free c R B v0 hv 0 (by omega)]
  iintro ⟨⟨⟨Hcol, ⟨%f1, HcolT⟩, Hbuf, ⟨%f3, HbufT⟩, ⟨%f4, Hp⟩, ⟨%f5, Ha⟩⟩, Hr, ⟨⟨HC, HB⟩, HT0, HT1⟩, Hbel, Hrow⟩, Ht⟩
  ihave Hcol := (col_split c).1 $$ Hcol
  ihave Hbuf := (buf_split c).1 $$ Hbuf
  ihave Hbel := (bel_split c B).1 $$ Hbel
  ihave Hrow := (row_split c R v0 hv).1 $$ Hrow
  icases Hbel with ⟨HbJ, HbT, HbL⟩
  icases Hrow with ⟨HrJ, HrT, HrL⟩
  isplitl [Ht]; · iexact Ht
  isplitl [HC Hcol HrJ HB Hbuf HbJ]
  · isplitl [HC Hcol HrJ]
    · isplitl [HC]; · iexact HC
      isplitl [Hcol]; · iexact Hcol
      iexact HrJ
    · isplitl [HB]; · iexact HB
      isplitl [Hbuf]; · iexact Hbuf
      iexact HbJ
  isplitl [HT0 HT1 HcolT HbufT HrT HbT]
  · isplitl [HT0 HcolT HrT]
    · isplitl [HT0]; · iexact HT0
      isplitl [HcolT]; · iexists f1; iapply (BIBase.Entails.of_eq (tail_whole c f1)); iexact HcolT
      iexact HrT
    · isplitl [HT1]; · iexact HT1
      isplitl [HbufT]; · iexists f3; iapply (BIBase.Entails.of_eq (tail_whole' c f3)); iexact HbufT
      iexact HbT
  isplitl [HrL]; · iexact HrL
  isplitl [HbL]; · iexact HbL
  isplitl [Hp]
  · iexists f4; isplitr [Hp]
    · ipureintro; exact fun k hk => absurd hk (Nat.not_lt_zero _)
    · iexact Hp
  isplitl [Ha]
  · iexists f5; isplitr [Ha]
    · ipureintro; exact fun h => absurd h (by omega)
    · iexact Ha
  iexact Hr

/-- and what is held after the last is what is taken back. -/
theorem handed_out : heldAt c R B v0 hv 16 ⊢ handed c R B := by
  unfold handed heldAt
  rw [chunks_free c R B v0 hv 16 (Or.inr (by omega)), chunks_parts, tailAt_free c R B v0 hv 16 (by omega)]
  iintro ⟨-, ⟨⟨HC, Hcol, HrJ⟩, ⟨HB, Hbuf, HbJ⟩⟩, ⟨⟨HT0, ⟨%f1, HcolT⟩, HrT⟩, ⟨HT1, ⟨%f3, HbufT⟩, HbT⟩⟩, HrL, HbL, ⟨%g, -, Hp⟩, ⟨%f, -, Ha⟩, Hr⟩
  isplitl [Hcol Hbuf HcolT HbufT Hp Ha]
  · isplitl [Hcol]; · iapply (col_split c).2; iexact Hcol
    isplitl [HcolT]; · iexists f1; iapply (BIBase.Entails.of_eq (tail_whole c f1).symm); iexact HcolT
    isplitl [Hbuf]; · iapply (buf_split c).2; iexact Hbuf
    isplitl [HbufT]; · iexists f3; iapply (BIBase.Entails.of_eq (tail_whole' c f3).symm); iexact HbufT
    isplitl [Hp]; · iexists g; iexact Hp
    iexists f; iexact Ha
  isplitl [Hr]; · iexact Hr
  isplitl [HC HB HT0 HT1]
  · isplitl [HC HB]
    · isplitl [HC]; · iexact HC
      iexact HB
    · isplitl [HT0]; · iexact HT0
      iexact HT1
  isplitl [HbJ HbT HbL]
  · iapply (bel_split c B).2
    isplitl [HbJ]; · iexact HbJ
    isplitl [HbT]; · iexact HbT
    iexact HbL
  · iapply (row_split c R v0 hv).2
    isplitl [HrJ]; · iexact HrJ
    isplitl [HrT]; · iexact HrT
    iexact HrL

end Parts

end Cert.KernelIdeal.Hand

end
-- ==== Proof.KernelIdeal.Frame.lean ====
/-
  Hand-written, untrusted. The launch: the pipeline's proof data, the body's obligation at every grid point, the run.
-/
module

public import proofs.«01_k».proof.Proof.KernelIdeal.Entry
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

section Run

variable (m : (ℓ : Loc nD τ sig) → Buf (Elt F) ℓ) (ρ : Dev nD → PrngReg)

/-- The buffers at the region's entry: after the transposition and the reshape. -/
abbrev V (c : Dev nD) (b : Ref sig .tc) : Buf (Elt F) ((c.tc : Thread nD τ).loc b) := StableHlo.after hostOps0 (fun b => m (c, b)) b

/-- The prefetched table's one word. -/
def word : BitVec 32 := V m (0 : Dev nD) main_v1 (ValueIdx.ix1 ⟨0, Nat.one_pos⟩)

/-- The table's contents, the same word on every core. -/
def adm (p : Fin 1) : (pcfgs (F := F) p).Adm := ⟨fun k => V m (0 : Dev nD) (pre0.ref k), trivial⟩

variable (hv : (word m).toNat < 16)

/-- The proof data of the one pipeline on core `c`. -/
def dats (p : Fin 1) (c : Dev nD) : Dat τ (Elt F) Unit ℕ (Pipeline.UD sig nD τ) ℕ (Pipeline.pin (pcfgs (F := F)) (adm m) p) c where
  A w := V m c (Pipeline.arrRef spec0 w)
  after w t := match w with
    | ⟨0, _⟩ => blockAt c (V m c main_v0) (V m c main_arg0) (word m) hv t.val
  Φ t := heldAt c (V m c main_v0) (V m c main_arg0) (word m) hv t.val
  q _ := fullShare
  owed _ := 0

theorem idle_at (t : Fin grid0.N) : idle0 0 (grid0.coords t) = decide (t.val < 8) := by
  revert t; decide +kernel
theorem flush_at (t : Fin grid0.N) : ((Pipeline.pin (pcfgs (F := F)) (adm m) 0).win 0).flush t = decide (8 ≤ t.val) := by
  have h : ∀ t : Fin grid0.N, (true && (t.val + 1 = grid0.N || decide (∃ h : t.val + 1 < grid0.N, cc0_transform_2 (grid0.coords ⟨t.val + 1, h⟩) ≠ cc0_transform_2 (grid0.coords t)))) = decide (8 ≤ t.val) := by
    decide +kernel
  exact h t
/-- At the second phase's points the window is on block `t % 8`, cut at the array's end. -/
theorem win_at (t : Fin grid0.N) (ht : 8 ≤ t.val) : cc0_transform_2 (grid0.coords t) 0 = t.val % 8
    ∧ (clip0_0 (grid0.coords t) (0 : Fin 1)).extent 131072 = if t.val = 15 then 82496 else 131072 := by
  have h : ∀ t : Fin grid0.N, 8 ≤ t.val → cc0_transform_2 (grid0.coords t) 0 = t.val % 8 ∧ (clip0_0 (grid0.coords t) (0 : Fin 1)).extent 131072 = if t.val = 15 then 82496 else 131072 := by
    decide +kernel
  exact h t ht

/-- The window's staging buffer at grid point `t`. -/
abbrev stg (t : Fin grid0.N) : Memref sig .tc .vmem S131072 .f32 :=
  spec0_0.stage ((Pipeline.pin (pcfgs (F := F)) (adm m) 0).slots t 0)
theorem stg_whole (t : Fin grid0.N) : (stg m t).IsWhole :=
  hstage0_0 (((Pipeline.pin (pcfgs (F := F)) (adm m) 0).slots t 0).cast nbuf0_0)

theorem defs₀_row (t : Fin grid0.N) :
    defs₀ (F := F) .tc (Pipeline.pin (pcfgs (F := F)) (adm m) 0).body ((Pipeline.pin (pcfgs (F := F)) (adm m) 0).bodyArgs t ((Pipeline.pin (pcfgs (F := F)) (adm m) 0).slots t))
      = bodyAt (F := F) (grid0.coords t) (stg m t) (stg_whole m t) := by
  unfold defs₀; rw [Defs.onTc_tc]

/-- A staging buffer owned at given contents of its view is held whole at some contents, and conversely. -/
theorem owns_held (c : Dev nD) (mo : Memref sig .tc .vmem S131072 .f32) (ho : mo.IsWhole) (X : FVec F S131072 .f32) :
    (owns (c : Thread nD τ) mo fullShare X : sProp 𝕄) = iprop(∃ f, ⌜mo.view.read (Elt F) f = X⌝ ∗ heldAll c mo f) := by
  unfold owns; rw [ho.set_eq_univ]

/-- The moved part of a block written in full up to the array's end is the block's. -/
theorem fill_block (c : Dev nD) (t : Fin grid0.N) (ht : 8 ≤ t.val) (X Y : FVec F S131072 .f32)
    (h : ∀ y : S131072.Idx, t.val % 8 * 131072 + (y (0 : Fin 1)).val < 1000000 → X y = Y y) :
    ((Pipeline.pin (pcfgs (F := F)) (adm m) 0).win 0).fill (grid0.coords t) X (((Pipeline.pin (pcfgs (F := F)) (adm m) 0).win 0).cut (grid0.coords t) Y) = X := by
  funext y
  by_cases hy : ((Pipeline.pin (pcfgs (F := F)) (adm m) 0).win 0).moved (grid0.coords t) y = true
  · have hlt := (((Pipeline.pin (pcfgs (F := F)) (adm m) 0).win 0).moved_iff (grid0.coords t) y).mp hy (0 : Fin 1)
    have hx : (y (0 : Fin 1)).val < (clip0_0 (grid0.coords t) (0 : Fin 1)).extent 131072 := hlt
    rw [(win_at t ht).2] at hx
    have hN : t.val < 16 := t.isLt
    refine (dif_pos hy).trans (h y ?_).symm
    split at hx <;> omega
  · exact Window.fill_of_not_moved _ _ _ _ hy

/-- The body keeps what it holds at every grid point, leaves the result's buffer alone in the first phase and fills its block in the second. -/
theorem body_obligation (c : Dev nD) : BodyObligationLoose (dats m hv 0 c) (defs₀ (F := F)) Variants.none () Set.univ := fun t => by
  rw [bigSep_W0, bigSep_W0, defs₀_row]
  have hi : (Pipeline.pin (pcfgs (F := F)) (adm m) 0).idle 0 ((Pipeline.pin (pcfgs (F := F)) (adm m) 0).grid.coords t) = decide (t.val < 8) := idle_at t
  have hf := flush_at m t
  have hi' : idle0 0 (((pcfgs (F := F) 0).gridAt (adm m 0).1).coords t) = decide (t.val < 8) := idle_at t
  have hf' : ((pcfgs (F := F) 0).win (adm m 0) 0).flush t = decide (8 ≤ t.val) := flush_at m t
  unfold Dat.owesAt Pipeline.owesWithin
  rw [show (dats m hv 0 c).owed t.castSucc = 0 from rfl, show (dats m hv 0 c).owed t.succ = 0 from rfl,
    show (dats m hv 0 c).Φ t.castSucc = heldAt c (V m c main_v0) (V m c main_arg0) (word m) hv t.val from rfl,
    show (dats m hv 0 c).Φ t.succ = heldAt c (V m c main_v0) (V m c main_arg0) (word m) hv (t.val + 1) from rfl]
  by_cases h8 : t.val < 8
  · simp only [hi, hf, hi', hf', h8, Nat.not_le.mpr h8, decide_true, decide_false]
    iintro ⟨HΦ, ⟨%W, -, HW⟩, HD⟩
    iapply (step_early c (V m c main_v0) (V m c main_arg0) (word m) hv (stg m t) (stg_whole m t) t h8 W _)
    isplitl [HΦ]; · iexact HΦ
    isplitl [HW]; · iexact HW
    iintro ⟨HΦ, ⟨%W', HW'⟩⟩
    isplitl [HΦ]; · iexact HΦ
    isplitl [HW']
    · iexists W'; isplitr; · ipureintro; exact fun _ _ => Or.inl trivial
      iexact HW'
    split
    · iexact HD
    · rename_i hb
      exact absurd (hb.symm.trans ((flush_at m t).trans (decide_eq_false (Nat.not_le.mpr h8)))) Bool.noConfusion
  · simp only [hi, hf, hi', hf', h8, Nat.not_lt.mp h8, decide_true, decide_false]
    iintro ⟨HΦ, ⟨%W, -, HW⟩, ⟨%d, HD⟩⟩
    ihave HD := (BIBase.Entails.of_eq (owns_held c (stg m t) (stg_whole m t) _)) $$ HD
    icases HD with ⟨%fo, -, HD⟩
    iapply (step_late c (V m c main_v0) (V m c main_arg0) (word m) hv (stg m t) (stg_whole m t) t (Nat.not_lt.mp h8) fo _)
    isplitl [HΦ]; · iexact HΦ
    isplitl [HD]; · iexact HD
    iintro ⟨HΦ, ⟨%f, %hr, HD⟩⟩
    isplitl [HΦ]; · iexact HΦ
    isplitl [HW]
    · iexists W; isplitr; · ipureintro; exact fun _ _ => Or.inl trivial
      iexact HW
    iexists ((stg m t).view.read (Elt F) f)
    iapply (BIBase.Entails.of_eq (owns_held c (stg m t) (stg_whole m t) _).symm)
    iexists f
    isplitr
    · ipureintro
      exact (fill_block m c t (Nat.not_lt.mp h8) _ _ hr).symm
    · iexact HD

end Run

end Cert.KernelIdeal.Hand

end
-- ==== Proof.KernelIdeal.Run.lean ====
/-
  Hand-written, untrusted. The run of the whole program: the arguments end unchanged, the result holds every product scaled by the
  reciprocal of the sum.
-/
module

public import proofs.«01_k».proof.Proof.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

section Run

variable (m : (ℓ : Loc nD τ sig) → Buf (Elt F) ℓ) (ρ : Dev nD → PrngReg) (hv : (word m).toNat < 16)

/-- The buffers the body's transfers read: the belief and the transposed strategy table. -/
def readBufs : Finset (Ref sig .tc) := {main_arg0, main_v0}
theorem readBufs_sub : readBufs ⊆ Pipeline.restRefsP sig pre0 spec0 := by decide
theorem readBufs_eq (c : Dev nD) : (bigSep readBufs (fun b => ((c.tc : Thread nD τ).loc b) ↦{fullShare} V m c b) : sProp 𝕄)
    = iprop(heldAll c belM (V m c main_arg0) ∗ heldAll c rowM (V m c main_v0)) := by
  unfold readBufs
  rw [bigSep_insert (by decide), bigSep_singleton]
  rfl

theorem word_table (c : Dev nD) : (V m (0 : Dev nD) main_v1 : BufOf (F := F) c tabM) = fun _ => word m := by
  funext k
  unfold word
  exact congrArg (V m (0 : Dev nD) main_v1) (funext fun x => by
    obtain rfl : x = (0 : Fin 1) := Subsingleton.elim (α := Fin 1) _ _
    exact Subsingleton.elim (α := Fin 1) _ _)

theorem launch_in (c : Dev nD) : iprop(Pipeline.ΦD cell spec0 readBufs (V m) c ∗ Pipeline.ΦT pre0 (adm m 0).1 c) ⊢ (dats m hv 0 c).Φ 0 := by
  refine BIBase.Entails.trans ?_ (handed_in c (V m c main_v0) (V m c main_arg0) (word m) hv)
  unfold handed
  rw [Pipeline.ΦD_eq, scopedRest0_eq, cells_eq, readBufs_eq, ← word_table m c]
  unfold Pipeline.ΦT Pipeline.prefHeld
  rw [bigSep_univ_eq_bigSepL (I := Fin 1) [0] (by decide) (by decide)]
  exact .rfl
theorem launch_out (c : Dev nD) : (dats m hv 0 c).Φ (Fin.last (Pipeline.pin (pcfgs (F := F)) (adm m) 0).N) ⊢ Pipeline.ΦD cell spec0 readBufs (V m) c := by
  refine BIBase.Entails.trans (handed_out c (V m c main_v0) (V m c main_arg0) (word m) hv) ?_
  unfold handed
  rw [Pipeline.ΦD_eq, scopedRest0_eq, cells_eq, readBufs_eq]

set_option backward.isDefEq.respectTransparency.types false in
/-- The run: every array ends at what the write-backs leave, every other buffer at its contents at the region's entry, every cell at zero. -/
theorem run_main : θ_run defs (onTc (τ := τ) (main (F := F))) (s₀ m ρ)
    (fun r => Pipeline.FramePost (Pipeline.pin (pcfgs (F := F)) (adm m)) (dats m hv) 0 (V m) r ∧ r.2.sem = fun _ => 0) :=
  Pipeline.θ_run_frameP_dma (Q' := _) (pcfgs (F := F)) (adm m) (dats m hv) (0 : Fin 1) launch0 cell defs₀ Variants.none cell_facts readBufs readBufs_sub m ρ main
    (hbody := body_obligation m hv) (hshare := fun c => (dats m hv 0 c).share_full fun _ => rfl)
    (howed := fun _ _ => rfl) (V := V m)
    (hmain := Pipeline.hmainP_prefix (pcfgs (F := F)) 0 defs₀ Variants.none m main hostOps0 hostOps0_sub ⟨rfl, rfl⟩ main_chain)
    (hA := fun _ _ => rfl) (hpf := fun c k => by obtain rfl : c = 0 := Subsingleton.elim (α := Fin 1) _ _; rfl)
    (hin := launch_in m hv) (hout := launch_out m hv)

/-- No host operation writes an argument. -/
theorem args_kept (c : Dev nD) : V m c main_arg0 = m ((c.tc : Thread nD τ).loc main_arg0) ∧ V m c main_arg1 = m ((c.tc : Thread nD τ).loc main_arg1)
    ∧ V m c main_arg2 = m ((c.tc : Thread nD τ).loc main_arg2) := ⟨rfl, rfl, rfl⟩

/-- Where the window's transfer at a second-phase point puts its element `y`. -/
theorem blk_at (t : Fin grid0.N) (h8 : 8 ≤ t.val) (y : (((Pipeline.pin (pcfgs (F := F)) (adm m) 0).win 0).xblock (grid0.coords t)).Idx)
    (hk : t.val % 8 * 131072 + (y (0 : Fin 1)).val < 1000000) :
    ((((Pipeline.pin (pcfgs (F := F)) (adm m) 0).win 0).blk t).view.emb y : S1000000.Idx) = ValueIdx.ix1 ⟨t.val % 8 * 131072 + (y (0 : Fin 1)).val, hk⟩ := by
  funext x
  obtain rfl : x = (0 : Fin 1) := Subsingleton.elim (α := Fin 1) _ _
  refine Fin.ext ?_
  show cc0_transform_2 (grid0.coords t) 0 * 131072 + 1 * (y (0 : Fin 1)).val = t.val % 8 * 131072 + (y (0 : Fin 1)).val
  rw [(win_at t h8).1]; omega

/-- The result's array holds every product scaled by the reciprocal of the sum. -/
theorem result_at (c : Dev nD) : (dats m hv 0 c).arrAt 0 (Pipeline.pin (pcfgs (F := F)) (adm m) 0).N
    = fun k : S1000000.Idx => outAt c (V m c main_v0) (V m c main_arg0) (word m) hv k := by
  refine (dats m hv 0 c).arrAt_eq_of_emb 0 _ (fun t hf y => ?_) (fun i => ?_)
  · have h8 : 8 ≤ t.val := of_decide_eq_true ((flush_at m t).symm.trans hf)
    have hN : t.val < 16 := t.isLt
    have hy : (y (0 : Fin 1)).val < (clip0_0 (grid0.coords t) (0 : Fin 1)).extent 131072 := (y (0 : Fin 1)).isLt
    rw [(win_at t h8).2] at hy
    have hk : t.val % 8 * 131072 + (y (0 : Fin 1)).val < 1000000 := by split at hy <;> omega
    refine (blockAt_in c (V m c main_v0) (V m c main_arg0) (word m) hv t.val _ hk).trans ?_
    exact congrArg (outAt c (V m c main_v0) (V m c main_arg0) (word m) hv) (blk_at m t h8 y hk).symm
  · have hi : (i (0 : Fin 1)).val < 1000000 := (i (0 : Fin 1)).isLt
    have hN : grid0.N = 16 := N_0
    let t : Fin grid0.N := ⟨8 + (i (0 : Fin 1)).val / 131072, by omega⟩
    have h8 : 8 ≤ t.val := Nat.le_add_right _ _
    have hx : (i (0 : Fin 1)).val % 131072 < (clip0_0 (grid0.coords t) (0 : Fin 1)).extent 131072 := by
      rw [(win_at t h8).2]
      show _ < if 8 + (i (0 : Fin 1)).val / 131072 = 15 then 82496 else 131072
      split <;> omega
    let y : (((Pipeline.pin (pcfgs (F := F)) (adm m) 0).win 0).xblock (grid0.coords t)).Idx := fun x =>
      ⟨(i (0 : Fin 1)).val % 131072, by
        obtain rfl : x = (0 : Fin 1) := Subsingleton.elim (α := Fin 1) _ _
        exact hx⟩
    have hk : t.val % 8 * 131072 + (y (0 : Fin 1)).val = (i (0 : Fin 1)).val := by
      show (8 + (i (0 : Fin 1)).val / 131072) % 8 * 131072 + (i (0 : Fin 1)).val % 131072 = (i (0 : Fin 1)).val
      omega
    refine ⟨t, (flush_at m t).trans (decide_eq_true h8), Finset.mem_map.mpr ⟨y, Finset.mem_univ _, ?_⟩⟩
    refine (blk_at m t h8 y (hk ▸ hi)).trans (funext fun x => ?_)
    obtain rfl : x = (0 : Fin 1) := Subsingleton.elim (α := Fin 1) _ _
    exact Fin.ext hk

/-- The run ends with the arguments unchanged, every cell at zero, and the result's array as said. -/
theorem run_value : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v2) = fun k : S1000000.Idx => outAt c (V m c main_v0) (V m c main_arg0) (word m) hv k)
      ∧ r.2.sem = fun _ => 0) :=
  (θ_run defs _ _).mono (fun r h => ⟨fun c => by
    obtain ⟨ha, hb⟩ := h.1 c
    obtain ⟨e0, e1, e2⟩ := args_kept m c
    exact ⟨(hb main_arg0 (Pipeline.mem_restRefs_of main_arg0 (by decide) (by decide : ∀ w, (spec0 w).arr.view.ref ≠ main_arg0))).trans e0,
      (hb main_arg1 (Pipeline.mem_restRefs_of main_arg1 (by decide) (by decide : ∀ w, (spec0 w).arr.view.ref ≠ main_arg1))).trans e1,
      (hb main_arg2 (Pipeline.mem_restRefs_of main_arg2 (by decide) (by decide : ∀ w, (spec0 w).arr.view.ref ≠ main_arg2))).trans e2,
      (ha 0).trans (result_at m hv c)⟩, h.2⟩) (run_main m ρ hv)

end Run

end Cert.KernelIdeal.Hand

end
-- ==== Proof.KernelIdeal.Word.lean ====
/-
  Hand-written, untrusted. The word the kernel reads from its table is the action.
-/
module

public import proofs.«01_k».proof.Proof.KernelIdeal.Run

@[expose] public section

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F] (m : (ℓ : Loc nD τ sig) → Buf (Elt F) ℓ)

/-- The table's word is the action. -/
theorem word_eq : word m = (m (((0 : Dev nD).tc : Thread nD τ).loc main_arg2) : IVec S_ 32) ValueIdx.ix0 := by
  unfold word
  show shapeCast S1 (m (((0 : Dev nD).tc : Thread nD τ).loc main_arg2) : IVec S_ 32) _ (ValueIdx.ix1 ⟨0, Nat.one_pos⟩) = _
  refine shapeCast_apply _ _ _ ValueIdx.ix0 ?_
  exact congrArg Fin.val (Subsingleton.elim (α := Fin 1) (S_.rowMajor ValueIdx.ix0) 0)

end Cert.KernelIdeal.Hand

end
-- ==== Proof.Reference.lean ====
/-
  Hand-written, untrusted. What the reference computes for an action in range: the chosen column times the belief, over the sum
  of these products; and its run, with every semaphore counter at zero.
-/
module

public import proofs.«01_k».proof.Proof.Gen.ReferenceIdeal.Run
public import Idealize.ShloMosaic.Lib.Quiescent
public import Idealize.ShloMosaic.Lib.IdealHost
public import Idealize.ShloMosaic.Lib.Pointwise.Reduce
public import Idealize.ShloMosaic.Lib.Pipeline.Value
public import Idealize.ShloMosaic.Lib.StableHlo.Predicate

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem Idealize.ShloMosaic.StableHlo
open scoped BigOperators

variable {F : FTy → Type} [FloatOps F]

/-! ## The chosen column -/

/-- The action, a negative one counted from the table's end, as the one-element array the gather reads. -/
def start (a : IVec S_ 32) : IVec S1 32 :=
  broadcastInDim S1 ![] bcast_S_S1 (select (cmpi .slt a (constantI S_ 32 0#32)) (addi a (constantI S_ 32 16#32)) a)
/-- Whether it is one of the table's columns. -/
def inside (a : IVec S_ 32) : IVec S_ 1 :=
  Host.reduce IntOp.andi (andi (cmpi .sge (start a) (broadcastInDim S1 ![] bcast_S_S1 (constantI S_ 32 0#32))) (cmpi .sle (start a) (constantI S1 32 15#32)))
    (constantI S_ 1 1#1) reducesTo_S1_S_d0 h_S_
/-- The reference's column of the strategy table. -/
def column (x : FVec F S1000000x16 .f32) (a : IVec S_ 32) : FVec F S1000000 .f32 :=
  select (broadcastInDim S1000000 ![] bcast_S_S1000000 (inside a)) (Host.gather gather_S1000000x16_S1_S1000000_0_1_n_n_1_0_10000001 x (start a))
    (broadcastInDim S1000000 ![] bcast_S_S1000000 (constant S_ .f32 0x7FC00000#32))

section InRange

variable (a : IVec S_ 32) (ha : (a ValueIdx.ix0).toNat < 16)
include ha

/-- An action in range is its own start index, -/
theorem start_at (i : S1.Idx) : start a i = a ValueIdx.ix0 := by
  unfold start
  refine (ValueIdx.broadcastInDim_scalar_apply bcast_S_S1 _ i).trans ?_
  show Scalar.select (IntOp.cmpi .slt (a ValueIdx.ix0) 0#32) _ _ = _
  rw [ValueIdx.eq_zero_of_ne_one (fun h => absurd ((Predicate.slt_iff_toNat (by omega) (by decide)).mp h) (Nat.not_lt_zero _))]
  exact ValueIdx.select_zero _ _

omit ha in
/-- A conjunction of bits that are all one is one. -/
theorem all_ones {s u : Shape} {axes : List (Fin s.rank)} {t : Shape} (x : IVec s 1) (hx : ∀ i, x i = 1#1) (init : IVec u 1) (hi : ∀ i, init i = 1#1)
    (h : s.ReducesTo axes t) (hu : 0 < u.numel) (j : t.Idx) : Host.reduce IntOp.andi x init h hu j = 1#1 := by
  unfold Host.reduce
  rw [hi]
  have key : ∀ l : List (Fin s.numel), l.foldl (fun r n => IntOp.andi r (x (s.rowMajor.symm n))) 1#1 = 1#1 := by
    intro l
    induction l with
    | nil => rfl
    | cons n l ih => rw [List.foldl_cons, hx]; exact ih
  exact key _

/-- and one of the table's columns. -/
theorem inside_at (i : S_.Idx) : inside a i = 1#1 := by
  unfold inside
  refine all_ones _ (fun k => ?_) _ (fun _ => rfl) _ _ i
  show IntOp.andi (IntOp.cmpi .sge (start a k) (broadcastInDim S1 ![] bcast_S_S1 (constantI S_ 32 0#32) k)) (IntOp.cmpi .sle (start a k) 15#32) = 1#1
  rw [ValueIdx.broadcastInDim_scalar_apply bcast_S_S1, start_at a ha]
  show IntOp.andi (IntOp.cmpi .sge (a ValueIdx.ix0) 0#32) (IntOp.cmpi .sle (a ValueIdx.ix0) 15#32) = 1#1
  rw [(Predicate.sge_iff_toNat (by omega) (by decide)).mpr (Nat.zero_le _),
    (Predicate.sle_iff_toNat (by omega) (by decide)).mpr (by show (a ValueIdx.ix0).toNat ≤ 15; omega)]
  rfl

/-- The gather reads row `k` of the column at the start index. -/
theorem gather_at (x : FVec F S1000000x16 .f32) (k : Fin 1000000) :
    Host.gather gather_S1000000x16_S1_S1000000_0_1_n_n_1_0_10000001 x (start a) (ValueIdx.ix1 k) = x (ValueIdx.ix2 k ⟨(a ValueIdx.ix0).toNat, ha⟩) := by
  unfold Host.gather
  refine congrArg x (funext fun b => Fin.ext ?_)
  show GatherDims.start _ _ _ b + GatherDims.batchCoord _ _ b + GatherDims.offCoord _ _ b = _
  rw [GatherDims.batchCoord_eq_zero _ _ _ List.not_mem_nil]
  obtain rfl | rfl : b = (0 : Fin 2) ∨ b = (1 : Fin 2) := (by decide : ∀ b : Fin 2, b = 0 ∨ b = 1) b
  · unfold GatherDims.start GatherDims.offCoord
    rw [dif_neg (by decide), dif_pos (by decide)]
    show 0 + 0 + k.val = k.val
    omega
  · unfold GatherDims.start GatherDims.offCoord
    rw [dif_pos (by decide), dif_neg (by decide), start_at a ha, Predicate.toInt_eq_toNat_of_lt (by omega)]
    show min (a ValueIdx.ix0).toNat 15 + 0 + 0 = (a ValueIdx.ix0).toNat
    omega

/-- The column at row `k`. -/
theorem column_at (x : FVec F S1000000x16 .f32) (k : Fin 1000000) : column x a (ValueIdx.ix1 k) = x (ValueIdx.ix2 k ⟨(a ValueIdx.ix0).toNat, ha⟩) := by
  unfold column
  rw [ValueIdx.select_apply, ValueIdx.broadcastInDim_scalar_apply bcast_S_S1000000, inside_at a ha, ValueIdx.select_one]
  exact gather_at a ha x k

end InRange

/-! ## The products, their sum and the result -/

/-- The products, -/
def products (b : FVec F S1000000 .f32) (x : FVec F S1000000x16 .f32) (a : IVec S_ 32) : FVec F S1000000 .f32 := mulf (column x a) b
/-- their sum, -/
def total (b : FVec F S1000000 .f32) (x : FVec F S1000000x16 .f32) (a : IVec S_ 32) : FVec F S_ .f32 :=
  Host.reduceAdd (products b x a) (constant S_ .f32 0x00000000#32) reducesTo_S1000000_S_d0 h_S_
/-- and the reference's result. -/
def result (b : FVec F S1000000 .f32) (x : FVec F S1000000x16 .f32) (a : IVec S_ 32) : FVec F S1000000 .f32 :=
  Host.divf (products b x a) (broadcastInDim S1000000 ![] bcast_S_S1000000 (total b x a))

/-- The reference runs to its result, leaves its arguments unchanged and every semaphore counter at zero. -/
theorem run_value (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v4)
        = result (m ((c.tc : Thread nD τ).loc main_arg0)) (m ((c.tc : Thread nD τ).loc main_arg1)) (m ((c.tc : Thread nD τ).loc main_arg2)))
      ∧ r.2.sem = fun _ => 0 :=
  (θ_run defs _ _).mono (fun r h => ⟨fun c => ⟨(h c).2.1, (h c).2.2.1, (h c).2.2.2, (h c).1⟩, sem_eq_zero_of_no_sems (by decide) r.2⟩)
    (Value.run m ρ)

section Real

variable (b : FVec Ideal S1000000 .f32) (x : FVec Ideal S1000000x16 .f32) (a : IVec S_ 32) (ha : (a ValueIdx.ix0).toNat < 16)

/-- Over the extended reals: the product at row `k`; -/
theorem products_at (k : Fin 1000000) : (products b x a (ValueIdx.ix1 k) : EReal)
    = (x (ValueIdx.ix2 k ⟨(a ValueIdx.ix0).toNat, ha⟩) : EReal) * (b (ValueIdx.ix1 k) : EReal) :=
  congrArg (fun y : EReal => y * (b (ValueIdx.ix1 k) : EReal)) (column_at a ha x k)
/-- the sum of all of them; -/
theorem total_at (i : S_.Idx) : (total b x a i : EReal) = ∑ k : Fin 1000000, (products b x a (ValueIdx.ix1 k) : EReal) := by
  unfold total
  refine (ValueIdx.hostReduceAdd_apply _ _ _ _ i).trans ((Ideal.hostReduceAdd_r1_a0 _ _ _ i).trans ?_)
  show Ideal.ofBits .f32 0x00000000#32 + _ = _
  rw [Ideal.ofBits_zero_f32, zero_add]
  rfl
/-- the result at row `k`. -/
theorem result_at (k : Fin 1000000) : (result b x a (ValueIdx.ix1 k) : EReal)
    = Ideal.div (products b x a (ValueIdx.ix1 k) : EReal) (total b x a ValueIdx.ix0 : EReal) := by
  unfold result
  refine (ValueIdx.hostDivf_apply _ _ _).trans ?_
  rw [ValueIdx.broadcastInDim_scalar_apply bcast_S_S1000000]

end Real

end Cert.ReferenceIdeal.Hand

end
-- ==== Proof.Pre.lean ====
/-
  Hand-written, untrusted. What the preconditions say: the action is one of the table's 16 columns, and the sum of the products is not zero.
-/
module

public import proofs.«01_k».proof.Proof.Reference
public import proofs.«01_k».proof.Proof.Gen.Pre_action_in_range
public import proofs.«01_k».proof.Proof.Gen.Pre_total_not_zero

@[expose] public section

set_option maxRecDepth 16384

noncomputable section

namespace Cert.Precond

open Idealize.ShloMosaic Idealize.ShloMosaic.StableHlo

/-- Two bits whose conjunction is one are both one. -/
theorem both_ones : ∀ p q : BitVec 1, IntOp.andi p q = 1#1 → p = 1#1 ∧ q = 1#1 := by decide

/-- A word from 0 to 15, compared signed, is from 0 to 15 unsigned. -/
theorem lt_of_signed (w : BitVec 32) (h : IntOp.andi (IntOp.cmpi .sge w 0#32) (IntOp.cmpi .slt w 16#32) = 1#1) : w.toNat < 16 := by
  obtain ⟨h0, h1⟩ := both_ones _ _ h
  have g0 : BitVec.sle 0#32 w = true := (Predicate.ofBool_eq_one_iff _).mp h0
  have g1 : BitVec.slt w 16#32 = true := (Predicate.ofBool_eq_one_iff _).mp h1
  rw [BitVec.sle_eq_decide, decide_eq_true_iff] at g0
  rw [BitVec.slt_eq_decide, decide_eq_true_iff] at g1
  have e0 : (0#32 : BitVec 32).toInt = 0 := rfl
  have e1 : (16#32 : BitVec 32).toInt = 16 := rfl
  rw [e0] at g0
  rw [e1] at g1
  rw [BitVec.toInt_eq_toNat_cond] at g0 g1
  have := w.isLt
  split at g0 <;> omega

variable {F : FTy → Type} [FloatOps F]

/-- `action_in_range` says that the action is one of the columns. -/
theorem action_lt (b : FVec F ReferenceIdeal.S1000000 .f32) (x : FVec F ReferenceIdeal.S1000000x16 .f32) (a : IVec ReferenceIdeal.S_ 32)
    (h : Cert.Pre_action_in_range.fn (F := F) b x a = fun _ => 1#1) : (a ValueIdx.ix0).toNat < 16 :=
  lt_of_signed _ (congrFun h ValueIdx.ix0)

/-- `total_not_zero` says so too, -/
theorem total_action_lt (b : FVec F ReferenceIdeal.S1000000 .f32) (x : FVec F ReferenceIdeal.S1000000x16 .f32) (a : IVec ReferenceIdeal.S_ 32)
    (h : Cert.Pre_total_not_zero.fn (F := F) b x a = fun _ => 1#1) : (a ValueIdx.ix0).toNat < 16 :=
  lt_of_signed _ (both_ones _ _ (congrFun h ValueIdx.ix0)).1

/-- and the reference's total passes its comparison with zero; -/
theorem total_compares (b : FVec F ReferenceIdeal.S1000000 .f32) (x : FVec F ReferenceIdeal.S1000000x16 .f32) (a : IVec ReferenceIdeal.S_ 32)
    (h : Cert.Pre_total_not_zero.fn (F := F) b x a = fun _ => 1#1) :
    cmpf .une (ReferenceIdeal.Hand.total b x a) (constant ReferenceIdeal.S_ .f32 0x00000000#32) ValueIdx.ix0 = 1#1 :=
  (both_ones _ _ (congrFun h ValueIdx.ix0)).2

/-- over the extended reals a number that passes it is not zero, -/
theorem ne_zero_of_compares (t : FVec Ideal ReferenceIdeal.S_ .f32) (i : ReferenceIdeal.S_.Idx)
    (h : cmpf .une t (constant ReferenceIdeal.S_ .f32 0x00000000#32) i = 1#1) : (t i : EReal) ≠ 0 := by
  have h2 : Ideal.cmp .une (t i : EReal) (Ideal.ofBits .f32 0x00000000#32) = 1#1 := h
  rw [Ideal.ofBits_zero_f32] at h2
  exact of_decide_eq_true ((Predicate.ofBool_eq_one_iff _).mp h2)

/-- so the reference's total is not zero. -/
theorem total_ne_zero (b : FVec Ideal ReferenceIdeal.S1000000 .f32) (x : FVec Ideal ReferenceIdeal.S1000000x16 .f32) (a : IVec ReferenceIdeal.S_ 32)
    (h : Cert.Pre_total_not_zero.fn (F := Ideal) b x a = fun _ => 1#1) : (ReferenceIdeal.Hand.total b x a ValueIdx.ix0 : EReal) ≠ 0 :=
  ne_zero_of_compares _ _ (total_compares b x a h)

end Cert.Precond

end
-- ==== Proof.KernelIdeal.Reads.lean ====
/-
  Hand-written, untrusted. The kernel's products and its sum over the extended reals, in terms of the strategy's chosen row
  and of the belief.
-/
module

public import proofs.«01_k».proof.Proof.KernelIdeal.Out
public import Idealize.ShloMosaic.Lib.Pipeline.Value
public import Idealize.ShloMosaic.Lib.Pointwise.Reduce
public import Idealize.ShloMosaic.Lib.IdealHost

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.Sem
open scoped BigOperators

/-! ## The chunks, read element by element -/

section Chunks

variable {F : FTy → Type} [FloatOps F]
variable (c : Dev nD) (R : BufOf (F := F) c rowM) (B : BufOf (F := F) c belM) (v0 : BitVec 32) (hv : v0.toNat < 16)

/-- Element `k` of the chosen row, -/
def rowAt (k : Fin 1000000) : Elt F .f32 := R (ValueIdx.ix2 ⟨v0.toNat, hv⟩ k : S16x1000000.Idx)
/-- and of the belief. -/
def belAt (k : Fin 1000000) : Elt F .f32 := B (ValueIdx.ix1 k : S1000000.Idx)

/-- Chunk `j` of the row starts at element `131072 j` of it; -/
theorem rowV_at (j : Fin 7) (q : Fin 131072) (hk : j.val * 131072 + q.val < 1000000) :
    rowV c R v0 hv j (ValueIdx.ix1 q) = rowAt c R v0 hv ⟨j.val * 131072 + q.val, hk⟩ := by
  have hc : S1x131072.ShapeCasts S131072 := by decide
  have h := Memref.read_squeeze_slice (Val := Elt F) rowM (Rect.unit (s := S16x1000000) ![v0.toNat, j.val * 131072] S1x131072.size (inbRow v0.toNat hv j))
    (fun _ => rfl) squeezes_S1x131072_S131072 hc R
  refine (congrFun h _).trans ((shapeCast_dropUnit_apply ![131072] _ hc (ValueIdx.ix1 q)).trans ?_)
  refine congrArg R (funext fun x => Fin.ext ?_)
  match x with
  | ⟨0, _⟩ => show v0.toNat + 1 * 0 = v0.toNat; omega
  | ⟨1, _⟩ => show j.val * 131072 + 1 * q.val = j.val * 131072 + q.val; omega
/-- its tail at element 917504; -/
theorem rowTV_at (q : Fin 82496) (hk : 917504 + q.val < 1000000) :
    rowTV c R v0 hv (ValueIdx.ix1 q) = rowAt c R v0 hv ⟨917504 + q.val, hk⟩ := by
  have hc : S1x82496.ShapeCasts S82496 := by decide
  have h := Memref.read_squeeze_slice (Val := Elt F) rowM (Rect.unit (s := S16x1000000) ![v0.toNat, 917504] S1x82496.size (inbRowT v0.toNat hv))
    (fun _ => rfl) squeezes_S1x82496_S82496 hc R
  refine (congrFun h _).trans ((shapeCast_dropUnit_apply ![82496] _ hc (ValueIdx.ix1 q)).trans ?_)
  refine congrArg R (funext fun x => Fin.ext ?_)
  match x with
  | ⟨0, _⟩ => show v0.toNat + 1 * 0 = v0.toNat; omega
  | ⟨1, _⟩ => show 917504 + 1 * q.val = 917504 + q.val; omega
/-- and the belief's chunks and tail likewise. -/
theorem belV_at (j : Fin 7) (q : Fin 131072) (hk : j.val * 131072 + q.val < 1000000) :
    belV c B j (ValueIdx.ix1 q) = belAt c B ⟨j.val * 131072 + q.val, hk⟩ := by
  refine congrArg B (funext fun x => Fin.ext ?_)
  obtain rfl : x = (0 : Fin 1) := Subsingleton.elim (α := Fin 1) _ _
  show j.val * 131072 + 1 * q.val = j.val * 131072 + q.val; omega
theorem belTV_at (q : Fin 82496) (hk : 917504 + q.val < 1000000) :
    belTV c B (ValueIdx.ix1 q) = belAt c B ⟨917504 + q.val, hk⟩ := by
  refine congrArg B (funext fun x => Fin.ext ?_)
  obtain rfl : x = (0 : Fin 1) := Subsingleton.elim (α := Fin 1) _ _
  show 917504 + 1 * q.val = 917504 + q.val; omega

end Chunks

/-! ## Over the extended reals -/

section Real

variable (c : Dev nD) (R : BufOf (F := Ideal) c rowM) (B : BufOf (F := Ideal) c belM) (v0 : BitVec 32) (hv : v0.toNat < 16)

/-- The product of the row's element `k` and the belief's; zero past the end. -/
def term (k : Nat) : EReal := if h : k < 1000000 then (rowAt c R v0 hv ⟨k, h⟩ : EReal) * (belAt c B ⟨k, h⟩ : EReal) else 0

theorem term_at (k : Nat) (h : k < 1000000) : term c R B v0 hv k = (rowAt c R v0 hv ⟨k, h⟩ : EReal) * (belAt c B ⟨k, h⟩ : EReal) := dif_pos h

/-- A chunk's product, at its element; -/
theorem chunk_prod (j : Fin 7) (q : Fin 131072) :
    (k0_pay1 (rowV c R v0 hv j) (belV c B j) (ValueIdx.ix1 q) : EReal) = term c R B v0 hv (j.val * 131072 + q.val) := by
  have hk : j.val * 131072 + q.val < 1000000 := by have := j.isLt; have := q.isLt; omega
  rw [term_at c R B v0 hv _ hk, ← rowV_at c R v0 hv j q hk, ← belV_at c B j q hk]
  rfl
/-- the tail's. -/
theorem tail_prod (q : Fin 82496) :
    (k0_pay4 (rowTV c R v0 hv) (belTV c B) (ValueIdx.ix1 q) : EReal) = term c R B v0 hv (917504 + q.val) := by
  have hk : 917504 + q.val < 1000000 := by have := q.isLt; omega
  rw [term_at c R B v0 hv _ hk, ← rowTV_at c R v0 hv q hk, ← belTV_at c B q hk]
  rfl

/-- What the kernel keeps of element `k` is its product. -/
theorem prodAt_eq (k : Fin 1000000) : (prodAt c R B v0 hv (ValueIdx.ix1 k) : EReal) = term c R B v0 hv k.val := by
  have hk := k.isLt
  unfold prodAt
  show (dite (k.val < 917504) _ _ : EReal) = _
  split
  · next h =>
    unfold k0_pay2
    refine (congrFun (shapeCast_self _ _) _).trans ((chunk_prod c R B v0 hv ⟨k.val / 131072, by omega⟩ ⟨k.val % 131072, by omega⟩).trans
      (congrArg (term c R B v0 hv) ?_))
    show k.val / 131072 * 131072 + k.val % 131072 = k.val; omega
  · next h =>
    unfold k0_pay5
    refine (congrFun (shapeCast_self _ _) _).trans ((tail_prod c R B v0 hv ⟨k.val - 917504, by omega⟩).trans (congrArg (term c R B v0 hv) ?_))
    show 917504 + (k.val - 917504) = k.val; omega

/-- The sum of a vector, as the kernel takes it: cast to one row, reduced along it, and read out. -/
theorem row_sum {n : Nat} (x : FVec Ideal ⟨1, ![n]⟩ .f32) (h1 : (⟨1, ![n]⟩ : Shape).ShapeCasts ⟨2, ![1, n]⟩) (h2 : (⟨2, ![1, n]⟩ : Shape).Reduces [1] S1)
    (h3 : S1.ShapeCasts S1x1) (h4 : ∀ a, (![0, 0] : Fin 2 → Nat) a < S1x1.size a) (hf : FKind.Formats .f32) (ha : (0x00000000#32 : BitVec 32) = FKind.add.neutral .f32 hf) :
    (extractAt ![0, 0] (shapeCast S1x1 (multiReduction .add [1] S1 (shapeCast ⟨2, ![1, n]⟩ x h1) 0x00000000#32 h2 hf ha) h3) h4 : EReal)
      = ∑ q : Fin n, (x (ValueIdx.ix1 q) : EReal) := by
  refine (shapeCast_apply _ h3 _ (ValueIdx.ix1 (0 : Fin 1)) ?_).trans ?_
  · rw [Shape.rowMajor_val_one, Shape.rowMajor_val_two]; rfl
  · refine (Ideal.reduceAdd_r2_a1 h2 _ _).trans (Finset.sum_congr rfl fun q _ => ?_)
    refine (shapeCast_addUnit_apply ![n] x h1 _).trans (congrArg x (funext fun a => ?_))
    obtain rfl : a = (0 : Fin 1) := Subsingleton.elim (α := Fin 1) _ _
    rfl

/-- A chunk adds the sum of its products to the running sum; -/
theorem chunk_sum (j : Fin 7) (s : EReal) : (k0_pay3 (F := Ideal) (rowV c R v0 hv j) (belV c B j) s : EReal)
    = s + ∑ q ∈ Finset.range 131072, term c R B v0 hv (j.val * 131072 + q) := by
  rw [← Fin.sum_univ_eq_sum_range (fun q => term c R B v0 hv (j.val * 131072 + q))]
  unfold k0_pay3
  refine congrArg (s + ·) ((row_sum _ _ _ _ _ _ _).trans (Finset.sum_congr rfl fun q _ => chunk_prod c R B v0 hv j q))
/-- the tail too. -/
theorem tail_sum (s : EReal) : (k0_pay6 (F := Ideal) (rowTV c R v0 hv) (belTV c B) s : EReal)
    = s + ∑ q ∈ Finset.range 82496, term c R B v0 hv (917504 + q) := by
  rw [← Fin.sum_univ_eq_sum_range (fun q => term c R B v0 hv (917504 + q))]
  unfold k0_pay6
  refine congrArg (s + ·) ((row_sum _ _ _ _ _ _ _).trans (Finset.sum_congr rfl fun q _ => tail_prod c R B v0 hv q))

/-- After `t` chunks the running sum is the sum of the products so far; -/
theorem accAt_eq : ∀ t : Nat, t ≤ 7 → (accAt c R B v0 hv t : EReal) = ∑ k ∈ Finset.range (t * 131072), term c R B v0 hv k
  | 0, _ => by
    rw [Nat.zero_mul, Finset.range_zero, Finset.sum_empty]
    exact Ideal.ofBits_zero_f32
  | t + 1, h => by
    rw [accAt_chunk c R B v0 hv t (by omega), chunk_sum, accAt_eq t (by omega), Nat.succ_mul, Finset.sum_range_add]
/-- and in the end the sum of all of them. -/
theorem acc_total : (accAt c R B v0 hv 8 : EReal) = ∑ k ∈ Finset.range 1000000, term c R B v0 hv k := by
  have e : (1000000 : Nat) = 7 * 131072 + 82496 := by norm_num
  have e' : (917504 : Nat) = 7 * 131072 := by norm_num
  rw [accAt_tail, tail_sum, accAt_eq c R B v0 hv 7 le_rfl, e', e, Finset.sum_range_add]

/-- The second phase's vector at an index: the product there, times the reciprocal of the sum. -/
theorem scaled_at (s : EReal) (x : FVec Ideal S131072 .f32) (i : S131072.Idx) : (k0_pay8 (F := Ideal) s x i : EReal) = (x i : EReal) * Ideal.div 1 s := by
  rw [← Ideal.ofBits_one_f32]
  rfl

/-- The kernel's result at element `k`: its product, times the reciprocal of the sum of all products. -/
theorem outAt_eq (k : Fin 1000000) : (outAt c R B v0 hv (ValueIdx.ix1 k) : EReal)
    = term c R B v0 hv k.val * Ideal.div 1 (∑ k ∈ Finset.range 1000000, term c R B v0 hv k) := by
  unfold outAt
  rw [scaled_at, prodAt_eq, acc_total]

end Real

end Cert.KernelIdeal.Hand

end
-- ==== Proof.Algebra.lean ====
/-
  Hand-written, untrusted. Over the extended reals the kernel's result is the reference's, for an action in range and a total that is not zero.
-/
module

public import proofs.«01_k».proof.Proof.Pre
public import proofs.«01_k».proof.Proof.KernelIdeal.Reads
public import proofs.«01_k».proof.Proof.KernelIdeal.Word

@[expose] public section

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open scoped BigOperators

section Host

variable {F : FTy → Type} [FloatOps F] (m : (ℓ : Loc nD τ sig) → Buf (Elt F) ℓ)

/-- The transposed table's element. -/
theorem table_at (c : Dev nD) (j : Fin 16) (k : Fin 1000000) : (V m c main_v0 : FVec F S16x1000000 .f32) (ValueIdx.ix2 j k)
    = (m ((c.tc : Thread nD τ).loc main_arg1) : FVec F S1000000x16 .f32) (ValueIdx.ix2 k j) := by
  show transpose _ _ (m ((c.tc : Thread nD τ).loc main_arg1) : FVec F S1000000x16 .f32) _ (ValueIdx.ix2 j k) = _
  refine transpose_apply _ _ _ (ValueIdx.ix2 j k) (ValueIdx.ix2 k j) (fun b => ?_)
  obtain rfl | rfl : b = (0 : Fin 2) ∨ b = (1 : Fin 2) := (by decide : ∀ b : Fin 2, b = 0 ∨ b = 1) b
  · rfl
  · rfl

end Host

section Equal

variable (m : (ℓ : Loc nD τ sig) → Buf (Elt Ideal) ℓ) (hv : (word m).toNat < 16)
  (b : FVec Ideal S1000000 .f32) (x : FVec Ideal S1000000x16 .f32) (a : IVec S_ 32) (ha : (a ValueIdx.ix0).toNat < 16)
  (c : Dev nD) (eb : V m c main_arg0 = b) (ex : m ((c.tc : Thread nD τ).loc main_arg1) = x) (ea : word m = a ValueIdx.ix0)
include ha eb ex ea

/-- The kernel's product at a row is the reference's; -/
theorem term_eq (k : Fin 1000000) : term c (V m c main_v0) (V m c main_arg0) (word m) hv k.val
    = (ReferenceIdeal.Hand.products b x a (ValueIdx.ix1 k) : EReal) := by
  rw [term_at c _ _ _ _ k.val k.isLt, ReferenceIdeal.Hand.products_at b x a ha k]
  unfold rowAt belAt
  rw [table_at m c, ex, eb]
  have e : (⟨(word m).toNat, hv⟩ : Fin 16) = ⟨(a ValueIdx.ix0).toNat, ha⟩ := Fin.ext (congrArg BitVec.toNat ea)
  rw [e]

/-- so is the sum; -/
theorem sum_eq : ∑ k ∈ Finset.range 1000000, term c (V m c main_v0) (V m c main_arg0) (word m) hv k
    = (ReferenceIdeal.Hand.total b x a ValueIdx.ix0 : EReal) := by
  rw [ReferenceIdeal.Hand.total_at b x a, ← Fin.sum_univ_eq_sum_range]
  exact Finset.sum_congr rfl fun k _ => term_eq m hv b x a ha c eb ex ea k

/-- and, the total not being zero, so is the result. -/
theorem result_eq (hne : (ReferenceIdeal.Hand.total b x a ValueIdx.ix0 : EReal) ≠ 0) :
    (fun k : S1000000.Idx => outAt c (V m c main_v0) (V m c main_arg0) (word m) hv k) = ReferenceIdeal.Hand.result b x a := by
  funext i
  obtain ⟨k, rfl⟩ : ∃ k : Fin 1000000, i = ValueIdx.ix1 k := ⟨i (0 : Fin 1), funext fun y => by
    obtain rfl : y = (0 : Fin 1) := Subsingleton.elim (α := Fin 1) _ _
    rfl⟩
  refine (outAt_eq c _ _ _ hv k).trans ?_
  rw [term_eq m hv b x a ha c eb ex ea, sum_eq m hv b x a ha c eb ex ea, Ideal.mul_one_div hne]
  exact (ReferenceIdeal.Hand.result_at b x a _).symm

end Equal

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal.Run
public import proofs.«01_k».proof.Proof.Gen.KernelIdeal.Flash
public import proofs.«01_k».proof.Proof.Gen.ReferenceIdeal
public import proofs.«01_k».proof.Proof.Gen.Pre_action_in_range
public import proofs.«01_k».proof.Proof.Gen.Pre_total_not_zero
public import proofs.«01_k».proof.Proof.Kernel.Word
public import proofs.«01_k».proof.Proof.KernelIdeal.Word
public import proofs.«01_k».proof.Proof.Reference
public import proofs.«01_k».proof.Proof.Pre
public import proofs.«01_k».proof.Proof.Algebra
public import Idealize.ShloMosaic.Adequacy
public import Idealize.ShloMosaic.Init

@[expose] public section

noncomputable section

namespace Cert.Proof

open Idealize.ShloMosaic Idealize.SL.Sem Cert.Kernel

attribute [local instance] Cert.Kernel.Gen.facts Cert.KernelIdeal.Gen.facts Cert.ReferenceIdeal.Gen.facts Cert.Pre_action_in_range.Gen.facts
  Cert.Pre_total_not_zero.Gen.facts

/-- The kernel as printed, for an action in range: its frame. -/
theorem kernel_quiescent : quiescent_Kernel := fun m g h => by
  have hv : (Cert.Kernel.Hand.word m).toNat < 16 := (Cert.Kernel.Hand.word_eq m) ▸ Cert.Precond.action_lt _ _ _ (h 0)
  exact (θ_run _ _ _).mono (fun r k => ⟨fun c => ⟨(k.1 c).1, (k.1 c).2.1, (k.1 c).2.2.1⟩, k.2⟩) (Cert.Kernel.Hand.run_value m g hv)

/-- The idealized kernel, likewise; -/
theorem ideal_quiescent : quiescent_KernelIdeal := fun m g h => by
  have hv : (Cert.KernelIdeal.Hand.word m).toNat < 16 := (Cert.KernelIdeal.Hand.word_eq m) ▸ Cert.Precond.action_lt _ _ _ (h 0)
  exact (θ_run _ _ _).mono (fun r k => ⟨fun c => ⟨(k.1 c).1, (k.1 c).2.1, (k.1 c).2.2.1⟩, k.2⟩) (Cert.KernelIdeal.Hand.run_value m g hv)

/-- under the stronger precondition too. -/
theorem ideal_quiescent_total : quiescent_KernelIdeal_pre_total_not_zero := fun m g h => by
  have hv : (Cert.KernelIdeal.Hand.word m).toNat < 16 := (Cert.KernelIdeal.Hand.word_eq m) ▸ Cert.Precond.total_action_lt _ _ _ (h 0)
  exact (θ_run _ _ _).mono (fun r k => ⟨fun c => ⟨(k.1 c).1, (k.1 c).2.1, (k.1 c).2.2.1⟩, k.2⟩) (Cert.KernelIdeal.Hand.run_value m g hv)

/-- The reference: its frame, -/
theorem reference_quiescent : quiescent_ReferenceIdeal := fun m g _ =>
  (θ_run _ _ _).mono (fun r k => ⟨fun c => ⟨(k.1 c).1, (k.1 c).2.1, (k.1 c).2.2.1⟩, k.2⟩) (Cert.ReferenceIdeal.Hand.run_value m g)

/-- which needs no precondition. -/
theorem reference_quiescent_total : quiescent_ReferenceIdeal_pre_total_not_zero := fun m g _ => reference_quiescent m g trivial

/-- The idealized kernel's result is the reference's. -/
theorem equal_results : algebraic_KernelIdeal_ReferenceIdeal_pre_total_not_zero := fun m g m' g' h hm => by
  have ha := Cert.Precond.total_action_lt _ _ _ (h 0)
  have ea := Cert.KernelIdeal.Hand.word_eq m
  have hv : (Cert.KernelIdeal.Hand.word m).toNat < 16 := ea ▸ ha
  refine ⟨fun c => Cert.ReferenceIdeal.Hand.result (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · refine (θ_run _ _ _).mono (fun r k c => ?_) (Cert.KernelIdeal.Hand.run_value m g hv)
    obtain ⟨k0, k1, k2, k3⟩ := k.1 c
    refine ⟨k3.trans ?_, k0, k1, k2⟩
    obtain rfl : c = (0 : Fin 1) := Subsingleton.elim (α := Fin 1) _ _
    exact Cert.KernelIdeal.Hand.result_eq m hv _ _ _ ha _ rfl rfl ea (Cert.Precond.total_ne_zero _ _ _ (h 0))
  · refine (θ_run _ _ _).mono (fun r k c => ?_) (Cert.ReferenceIdeal.Hand.run_value m' g')
    obtain ⟨k0, k1, k2, k3⟩ := k.1 c
    obtain ⟨e0, e1, e2⟩ := hm c
    rw [e0, e1, e2] at k3
    exact ⟨k3, k0, k1, k2⟩

/-- Every claim of the certificate. -/
theorem claim : Cert.Claim := ⟨Cert.Kernel.Gen.facts, Cert.KernelIdeal.Gen.facts, Cert.ReferenceIdeal.Gen.facts, Cert.Pre_action_in_range.Gen.facts,
  Cert.Pre_total_not_zero.Gen.facts, kernel_quiescent, ideal_quiescent, ideal_quiescent_total, reference_quiescent, reference_quiescent_total, trivial,
  equal_results⟩

end Cert.Proof

end
